-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S512x512 : Shape := ⟨2, ![512, 512]⟩
abbrev S4x1024x512 : Shape := ⟨3, ![4, 1024, 512]⟩
abbrev S1x16 : Shape := ⟨2, ![1, 16]⟩
abbrev S4x1x16 : Shape := ⟨3, ![4, 1, 16]⟩
abbrev S3 : Shape := ⟨1, ![3]⟩
abbrev S4 : Shape := ⟨1, ![4]⟩
abbrev S_ : Shape := ⟨0, ![]⟩
abbrev S512 : Shape := ⟨1, ![512]⟩
abbrev S512x16 : Shape := ⟨2, ![512, 16]⟩
abbrev S16 : Shape := ⟨1, ![16]⟩
abbrev S1 : Shape := ⟨1, ![1]⟩
abbrev S1x1x16 : Shape := ⟨3, ![1, 1, 16]⟩
abbrev S1024x512 : Shape := ⟨2, ![1024, 512]⟩
abbrev S1x1024x512 : Shape := ⟨3, ![1, 1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S512x512, .f32⟩
  | .local _ .vmem, ⟨4, _⟩ => ⟨S4x1024x512, .bf16⟩
  | .local _ .vmem, ⟨5, _⟩ => ⟨S1x16, .f32⟩
  | .local _ .vmem, ⟨6, _⟩ => ⟨S4x1x16, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v10 : BitVec 32 := Scalar.addi v2 c1_i32_4
  let c4_i32_5 : BitVec 32 := 4#32
  let v11 : BitVec 32 := Scalar.remsi v10 c4_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_8 : BitVec 32 := 4#32
  let v15 : BitVec 32 := Scalar.remsi v14 c4_i32_8
  let c1_i32_10 : BitVec 32 := 1#32
  let v16 : BitVec 32 := Scalar.muli v15 c1_i32_10
  let v17 : BitVec 32 := Scalar.addi c0_i32_11 v16
  v17.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v18 : BitVec 32 := Scalar.addi v2 c3_i32
  let c4_i32_12 : BitVec 32 := 4#32
  let v19 : BitVec 32 := Scalar.remsi v18 c4_i32_12
  let c1_i32_14 : BitVec 32 := 1#32
  let v20 : BitVec 32 := Scalar.muli v19 c1_i32_14
  let v21 : BitVec 32 := Scalar.addi c0_i32_15 v20
  v21.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_27 : BitVec 32 := 0#32
  let c0_i32_28 : BitVec 32 := 0#32
  ![v2.toNat, 0, 0]
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v35 : BitVec 32 := Scalar.addi v2 c1_i32_22
  let c4_i32_23 : BitVec 32 := 4#32
  let v36 : BitVec 32 := Scalar.remsi v35 c4_i32_23
  let c1_i32_25 : BitVec 32 := 1#32
  let v37 : BitVec 32 := Scalar.muli v36 c1_i32_25
  let v38 : BitVec 32 := Scalar.addi c0_i32_26 v37
  v38.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v45 : BitVec 32 := Scalar.addi v2 c2_i32_29
  let c4_i32_30 : BitVec 32 := 4#32
  let v46 : BitVec 32 := Scalar.remsi v45 c4_i32_30
  let c1_i32_32 : BitVec 32 := 1#32
  let v47 : BitVec 32 := Scalar.muli v46 c1_i32_32
  let v48 : BitVec 32 := Scalar.addi c0_i32_33 v47
  v48.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_36 : BitVec 32 := 3#32
  let v55 : BitVec 32 := Scalar.addi v2 c3_i32_36
  let c4_i32_37 : BitVec 32 := 4#32
  let v56 : BitVec 32 := Scalar.remsi v55 c4_i32_37
  let c1_i32_39 : BitVec 32 := 1#32
  let v57 : BitVec 32 := Scalar.muli v56 c1_i32_39
  let v58 : BitVec 32 := Scalar.addi c0_i32_40 v57
  v58.toNat
def k0_off3 (d0 : Dev nD) (c1_i32_49 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c1_i32_49
  let c4_i32_50 : BitVec 32 := 4#32
  let v73 : BitVec 32 := Scalar.remsi v72 c4_i32_50
  ![v73.toNat]
def k0_off4 (d0 : Dev nD) (c1_i32_49 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c1_i32_49
  let c4_i32_50 : BitVec 32 := 4#32
  let v73 : BitVec 32 := Scalar.remsi v72 c4_i32_50
  let c0_i32_54 : BitVec 32 := 0#32
  let c0_i32_55 : BitVec 32 := 0#32
  ![v73.toNat, 0, 0]
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_96 : BitVec 32 := 1#32
  let v132 : BitVec 32 := Scalar.muli v4 c1_i32_96
  let v133 : BitVec 32 := Scalar.addi c0_i32_97 v132
  v133.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_140 : BitVec 32 := 1#32
  let v208 : BitVec 32 := Scalar.muli v4 c1_i32_140
  let v209 : BitVec 32 := Scalar.addi c0_i32_141 v208
  v209.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_183 : BitVec 32 := 1#32
  let v284 : BitVec 32 := Scalar.muli v4 c1_i32_183
  let v285 : BitVec 32 := Scalar.addi c0_i32_184 v284
  v285.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S16 : Shape := ⟨1, ![16]⟩
abbrev S_ : Shape := ⟨0, ![]⟩
abbrev S2048x16 : Shape := ⟨2, ![2048, 16]⟩
abbrev S1x1 : Shape := ⟨2, ![1, 1]⟩
abbrev S1x16 : Shape := ⟨2, ![1, 16]⟩
abbrev S2048x16x512 : Shape := ⟨3, ![2048, 16, 512]⟩
abbrev S2048x16x1 : Shape := ⟨3, ![2048, 16, 1]⟩
abbrev S2048x512 : Shape := ⟨2, ![2048, 512]⟩

abbrev nBuf : Space → Nat
  | .hbm => 61
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x16, .f32⟩
  | .hbm, ⟨2, _⟩ => ⟨S2048x1, .i32⟩
  | .hbm, ⟨3, _⟩ => ⟨S16x256x512, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S2048x16, .i32⟩
  | .hbm, ⟨9, _⟩ => ⟨S_, .i32⟩
  | .hbm, ⟨10, _⟩ => ⟨S_, .i32⟩
  | .hbm, ⟨11, _⟩ => ⟨S2048x1, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S16, .i32⟩
  | .hbm, ⟨16, _⟩ => ⟨S2048x16, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1, .i32⟩
  | .hbm, ⟨29, _⟩ => ⟨S_, .i32⟩
  | .hbm, ⟨30, _⟩ => ⟨S16, .i32⟩
  | .hbm, ⟨31, _⟩ => ⟨S16, .i1⟩
  | .hbm, ⟨32, _⟩ => ⟨S_, .i32⟩
  | .hbm, ⟨33, _⟩ => ⟨S16, .i32⟩
  | .hbm, ⟨34, _⟩ => ⟨S16, .i1⟩
  | .hbm, ⟨35, _⟩ => ⟨S16, .i1⟩
  | .hbm, ⟨36, _⟩ => ⟨S16, .i32⟩
  | .hbm, ⟨37, _⟩ => ⟨S16, .i32⟩
  | .hbm, ⟨38, _⟩ => ⟨S1x16, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S2048x16, .i32⟩
  | .hbm, ⟨47, _⟩ => ⟨S_, .i32⟩
  | .hbm, ⟨48, _⟩ => ⟨S_, .i32⟩
  | .hbm, ⟨49, _⟩ => ⟨S2048x16x512, .f32⟩
  | .hbm, ⟨50, _⟩ => ⟨S2048x16x1, .i32⟩
  | .hbm, ⟨51, _⟩ => ⟨S_, .i32⟩
  | .hbm, ⟨52, _⟩ => ⟨S2048x16x1, .i32⟩
  | .hbm, ⟨53, _⟩ => ⟨S2048x16x1, .i1⟩
  | .hbm, ⟨54, _⟩ => ⟨S_, .f32⟩
  | .hbm, ⟨55, _⟩ => ⟨S_, .f32⟩
  | .hbm, ⟨56, _⟩ => ⟨S2048x16x512, .i1⟩
  | .hbm, ⟨57, _⟩ => ⟨S2048x16x512, .f32⟩
  | .hbm, ⟨58, _⟩ => ⟨S2048x16x512, .f32⟩
  | .hbm, ⟨59, _⟩ => ⟨S_, .f32⟩
  | .hbm, ⟨60, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_while0c_c_10 : Ref sig .tc := ⟨.hbm, 17, rfl⟩
abbrev main_while0c_v10 : Ref sig .tc := ⟨.hbm, 18, rfl⟩
abbrev main_while0b_c_10 : Ref sig .tc := ⟨.hbm, 19, rfl⟩
abbrev main_while0b_v10 : Ref sig .tc := ⟨.hbm, 20, rfl⟩
abbrev main_while0b_c_11 : Ref sig .tc := ⟨.hbm, 21, rfl⟩
abbrev main_while0b_v11 : Ref sig .tc := ⟨.hbm, 22, rfl⟩
abbrev main_while0b_v12 : Ref sig .tc := ⟨.hbm, 23, rfl⟩
abbrev main_while0b_c_12 : Ref sig .tc := ⟨.hbm, 24, rfl⟩
abbrev main_while0b_v13 : Ref sig .tc := ⟨.hbm, 25, rfl⟩
abbrev main_while0b_v14 : Ref sig .tc := ⟨.hbm, 26, rfl⟩
abbrev main_while0b_c_13 : Ref sig .tc := ⟨.hbm, 27, rfl⟩
abbrev main_while0b_v15 : Ref sig .tc := ⟨.hbm, 28, rfl⟩
abbrev main_while0b_v16 : Ref sig .tc := ⟨.hbm, 29, rfl⟩
abbrev main_while0b_v17 : Ref sig .tc := ⟨.hbm, 30, rfl⟩
abbrev main_while0b_v18 : Ref sig .tc := ⟨.hbm, 31, rfl⟩
abbrev main_while0b_c_14 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_c_15 : Ref sig .tc := ⟨.hbm, 39, rfl⟩
abbrev main_while0b_v25 : Ref sig .tc := ⟨.hbm, 40, rfl⟩
abbrev main_while0b_v26 : Ref sig .tc := ⟨.hbm, 41, rfl⟩
abbrev main_while0b_c_16 : Ref sig .tc := ⟨.hbm, 42, rfl⟩
abbrev main_while0b_v27 : Ref sig .tc := ⟨.hbm, 43, rfl⟩
abbrev main_while0b_v28 : Ref sig .tc := ⟨.hbm, 44, rfl⟩
abbrev main_while0b_c_17 : Ref sig .tc := ⟨.hbm, 45, rfl⟩
abbrev main_while0b_v29 : Ref sig .tc := ⟨.hbm, 46, rfl⟩
abbrev main_while0b_c_18 : Ref sig .tc := ⟨.hbm, 47, rfl⟩
abbrev main_while0b_v30 : Ref sig .tc := ⟨.hbm, 48, rfl⟩
abbrev main_v4 : Ref sig .tc := ⟨.hbm, 49, rfl⟩
abbrev main_v5 : Ref sig .tc := ⟨.hbm, 50, rfl⟩
abbrev main_c_3 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v8 : Ref sig .tc := ⟨.hbm, 58, rfl⟩
abbrev main_cst_4 : Ref sig .tc := ⟨.hbm, 59, rfl⟩
abbrev main_v9 : Ref sig .tc := ⟨.hbm, 60, rfl⟩

abbrev nD : Nat := 1
abbrev τ : Topo := Topo.v7x

variable {F : FTy → Type} [FloatOps F]

abbrev main_while0_count : Scf.Loop 32 := ⟨0#32, 2048#32, 1#32⟩
-- ==== Proof.KernelIdeal.Cells.lean ====
/-
# The dispatch kernel's buffers, semaphores and what they hold

Four devices stand in a ring. Each one counts its tokens per expert and sends the 16 counts to the three
others (a row of a 4x1x16 buffer per sender); the four expert matrices of every device then travel once
round the ring, from slot `h` of a device to slot `h + 1` of the next one. This module names the devices'
neighbours, the rows and slots, the fourteen semaphores of a device, and the contents which every row and
every slot finally has. Nothing here speaks of an execution.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The rounds' ghost state: a cell's duties are named by devices. -/
abbrev UB : Type := URounds (GSem nD τ sig) (Dev nD)
/-- The pipeline's ghost state beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: memory `m`, no counter raised. -/
def s₀ : MemSt nD τ sig (Elt F) := ⟨m, fun _ => 0, ρ⟩

/-! ## Devices -/

/-- The device `k` places further round the ring. -/
def rot (k : ℕ) (c : Dev nD) : Dev nD := ⟨(c.val + k) % 4, Nat.mod_lt _ (by decide)⟩

theorem rot_ne (c : Dev nD) : rot 1 c ≠ c ∧ rot 2 c ≠ c ∧ rot 3 c ≠ c := by revert c; decide
theorem rot_3_1 (c : Dev nD) : rot 3 (rot 1 c) = c := by revert c; decide
theorem rot_1_3 (c : Dev nD) : rot 1 (rot 3 c) = c := by revert c; decide
theorem rot_2_2 (c : Dev nD) : rot 2 (rot 2 c) = c := by revert c; decide

theorem dev1_eq (c : Dev nD) : (⟨k0_dev1 c, k0_dev1_lt c⟩ : Dev nD) = rot 1 c := Fin.ext (k0_dev1_eq c)
theorem dev2_eq (c : Dev nD) : (⟨k0_dev2 c, k0_dev2_lt c⟩ : Dev nD) = rot 2 c := Fin.ext (k0_dev2_eq c)
theorem dev3_eq (c : Dev nD) : (⟨k0_dev3 c, k0_dev3_lt c⟩ : Dev nD) = rot 3 c := Fin.ext (k0_dev3_eq c)
theorem dev4_eq (c : Dev nD) : (⟨k0_dev4 c, k0_dev4_lt c⟩ : Dev nD) = rot 1 c := Fin.ext (k0_dev4_eq c)
theorem dev5_eq (c : Dev nD) : (⟨k0_dev5 c, k0_dev5_lt c⟩ : Dev nD) = rot 2 c := Fin.ext (k0_dev5_eq c)
theorem dev6_eq (c : Dev nD) : (⟨k0_dev6 c, k0_dev6_lt c⟩ : Dev nD) = rot 3 c := Fin.ext (k0_dev6_eq c)
theorem dev7_eq (c : Dev nD) : (⟨k0_dev7 c, k0_dev7_lt c⟩ : Dev nD) = rot 1 c := Fin.ext (k0_dev7_eq c)
theorem dev8_eq (c : Dev nD) : (⟨k0_dev8 c, k0_dev8_lt c⟩ : Dev nD) = rot 1 c := Fin.ext (k0_dev8_eq c)
theorem dev9_eq (c : Dev nD) : (⟨k0_dev9 c, k0_dev9_lt c⟩ : Dev nD) = rot 1 c := Fin.ext (k0_dev9_eq c)

/-! ## Rows and slots -/

abbrev xM : Memref sig .tc .vmem S512x256 .f32 := Memref.whole cc0_stg0_0
abbrev routeM : Memref sig .tc .vmem S512x1 .i32 := Memref.whole cc0_stg1_0
abbrev wM : Memref sig .tc .vmem S4x256x512 .f32 := Memref.whole cc0_stg2_0
abbrev outM : Memref sig .tc .vmem S512x512 .f32 := Memref.whole cc0_stg3_0
abbrev commM : Memref sig .tc .vmem S4x1024x512 .bf16 := Memref.whole cc0_scratch0
abbrev mineM : Memref sig .tc .vmem S1x16 .f32 := Memref.whole cc0_scratch1
abbrev cntM : Memref sig .tc .vmem S4x1x16 .f32 := Memref.whole cc0_scratch2

/-- Row `j` of the counts: where device `j`'s counts land. -/
abbrev rowM (j : Dev nD) : Memref sig .tc .vmem S1x16 .f32 :=
  (cntM.slice (Rect.unit (s := S4x1x16) (k0_off2 j) S1x1x16.size (k0_off2_inb j)) (fun _ => rfl)).squeeze S1x16 squeezes_S1x1x16_S1x16

theorem slot_inb (h : Fin 4) : ∀ a, (![h.val, 0, 0] : Fin 3 → ℕ) a + S1x1024x512.size a ≤ S4x1024x512.size a := by
  revert h; decide
/-- The rectangle of slot `h`. -/
abbrev slotR (h : Fin 4) : Rect S4x1024x512 := Rect.unit (s := S4x1024x512) ![h.val, 0, 0] S1x1024x512.size (slot_inb h)
/-- Slot `h` of the travelling matrices. -/
abbrev slotM (h : Fin 4) : Memref sig .tc .vmem S1024x512 .bf16 :=
  (commM.slice (slotR h) (fun _ => rfl)).squeeze S1024x512 squeezes_S1x1024x512_S1024x512

/-- What a transfer of sixteen counts credits, -/
abbrev Nc : ℕ := (mineM : Memref sig .tc .vmem S1x16 .f32).view.dmaCredit
/-- and one of a device's expert matrices. -/
abbrev Nh : ℕ := (slotM 0).view.dmaCredit
theorem Nc_pos : 0 < Nc := View.dmaCredit_pos _ (by decide)
theorem Nh_pos : 0 < Nh := View.dmaCredit_pos _ (by decide)
theorem credit_row (j : Dev nD) : (rowM j).view.dmaCredit = Nc := rfl
theorem credit_slot (h : Fin 4) : (slotM h).view.dmaCredit = Nh := rfl

omit [FloatOps F] in
theorem row_set (j : Dev nD) : (rowM j).view.set = (Rect.unit (s := S4x1x16) (k0_off2 j) S1x1x16.size (k0_off2_inb j)).set := by
  rw [Memref.set_view_squeeze]; exact View.set_slice_whole _ _
omit [FloatOps F] in
theorem slot_set (h : Fin 4) : (slotM h).view.set = (slotR h).set := by
  rw [Memref.set_view_squeeze]; exact View.set_slice_whole _ _
omit [FloatOps F] in
theorem slot_access_set (h : Fin 4) : (commM.access (slotR h)).set = (slotR h).set := View.set_slice_whole _ _

omit [FloatOps F] in
/-- An element lies in row `j` when its first coordinate is `j`. -/
theorem mem_row (j : Dev nD) (i : S4x1x16.Idx) : i ∈ (rowM j).view.set ↔ (i 0).val = j.val := by
  rw [row_set, Rect.mem_set_unit, k0_off2_eq]
  constructor
  · intro h; have := h 0; simp [Fin.forall_fin_succ] at this; omega
  · intro h a
    match a with
    | ⟨0, _⟩ => simp; omega
    | ⟨1, _⟩ => have := (i 1).isLt; simp at this ⊢; omega
    | ⟨2, _⟩ => have := (i 2).isLt; simp at this ⊢; omega
omit [FloatOps F] in
/-- An element lies in slot `h` when its first coordinate is `h`. -/
theorem mem_slot (h : Fin 4) (i : S4x1024x512.Idx) : i ∈ (slotM h).view.set ↔ (i 0).val = h.val := by
  rw [slot_set, Rect.mem_set_unit]
  constructor
  · intro hh; have := hh 0; simp at this; omega
  · intro hh a
    match a with
    | ⟨0, _⟩ => simp; omega
    | ⟨1, _⟩ => have := (i 1).isLt; simp at this ⊢; omega
    | ⟨2, _⟩ => have := (i 2).isLt; simp at this ⊢; omega

/-! ## Semaphores -/

/-- The barrier semaphore, one per device, which belongs to no launch. -/
abbrev barS : Sem sig := (SemArray.scalar (sig.barrier 0 rfl) : Sems sig S_).sem

theorem three_inb (o : Fin 3) : ∀ a, (![o.val] : Fin 1 → ℕ) a + S1.size a ≤ S3.size a := by revert o; decide

abbrev cntSendS (o : Fin 3) : DmaSem sig := ((cc0_scratch3.slice (Rect.unit (s := S3) ![o.val] S1.size (three_inb o))).squeeze S_ squeezes_S1_S_).sem
abbrev cntRecvS (j : Dev nD) : DmaSem sig := ((cc0_scratch4.slice (Rect.unit (s := S4) (k0_off1 j) S1.size (k0_off1_inb j))).squeeze S_ squeezes_S1_S_).sem
abbrev hopSendS (h : Fin 3) : DmaSem sig := ((cc0_scratch5.slice (Rect.unit (s := S3) ![h.val] S1.size (three_inb h))).squeeze S_ squeezes_S1_S_).sem
abbrev hopRecvS (h : Fin 3) : DmaSem sig := ((cc0_scratch6.slice (Rect.unit (s := S3) ![h.val] S1.size (three_inb h))).squeeze S_ squeezes_S1_S_).sem

/-- The semaphores by kind. -/
inductive Role where
  | bar
  | cntSend (o : Fin 3)
  | cntRecv (j : Dev nD)
  | hopSend (h : Fin 3)
  | hopRecv (h : Fin 3)
  | other
deriving DecidableEq

/-- The kind of a semaphore, read off its number. -/
def role : SemLoc sig → Role
  | .reg s => if s = barS then .bar else .other
  | .dma q =>
    if h : q.val < 4 then .other
    else if h : q.val < 7 then .cntSend ⟨q.val - 4, by omega⟩
    else if h : q.val < 11 then .cntRecv ⟨q.val - 7, by show _ < 4; omega⟩
    else if h : q.val < 14 then .hopSend ⟨q.val - 11, by omega⟩
    else if h : q.val < 17 then .hopRecv ⟨q.val - 14, by omega⟩
    else .other

/-- A device's fourteen semaphores: the barrier's, three for counts sent, four for counts received (by sender),
    three for matrices sent, three for matrices received (by hop). -/
abbrev csem : Fin 14 → SemLoc sig := fun
  | 0 => .reg barS
  | 1 => .dma (cntSendS 0) | 2 => .dma (cntSendS 1) | 3 => .dma (cntSendS 2)
  | 4 => .dma (cntRecvS 0) | 5 => .dma (cntRecvS 1) | 6 => .dma (cntRecvS 2) | 7 => .dma (cntRecvS 3)
  | 8 => .dma (hopSendS 0) | 9 => .dma (hopSendS 1) | 10 => .dma (hopSendS 2)
  | 11 => .dma (hopRecvS 0) | 12 => .dma (hopRecvS 1) | 13 => .dma (hopRecvS 2)
/-- The thirteen of them which the launch itself owns. -/
abbrev osem : Fin 13 → SemLoc sig := fun k => csem k.succ
/-- The semaphore `k` of device `c`. -/
abbrev kcell (x : Dev nD × Fin 14) : GSem nD τ sig := ((x.1 : Thread nD τ), csem x.2)

/-- The place of each kind among the fourteen. -/
abbrev ixCntSend (o : Fin 3) : Fin 14 := ⟨1 + o.val, by omega⟩
abbrev ixCntRecv (j : Dev nD) : Fin 14 := ⟨4 + j.val, by have := j.isLt; show _ < 14; change j.val < 4 at this; omega⟩
abbrev ixHopSend (h : Fin 3) : Fin 14 := ⟨8 + h.val, by omega⟩
abbrev ixHopRecv (h : Fin 3) : Fin 14 := ⟨11 + h.val, by omega⟩

theorem csem_cntSend (o : Fin 3) : csem (ixCntSend o) = .dma (cntSendS o) := by revert o; decide
theorem csem_cntRecv (j : Dev nD) : csem (ixCntRecv j) = .dma (cntRecvS j) := by revert j; decide
theorem csem_hopSend (h : Fin 3) : csem (ixHopSend h) = .dma (hopSendS h) := by revert h; decide
theorem csem_hopRecv (h : Fin 3) : csem (ixHopRecv h) = .dma (hopRecvS h) := by revert h; decide

theorem role_bar : role (.reg barS) = .bar := by decide
theorem role_cntSend (o : Fin 3) : role (.dma (cntSendS o)) = .cntSend o := by revert o; decide
theorem role_cntRecv (j : Dev nD) : role (.dma (cntRecvS j)) = .cntRecv j := by revert j; decide
theorem role_hopSend (h : Fin 3) : role (.dma (hopSendS h)) = .hopSend h := by revert h; decide
theorem role_hopRecv (h : Fin 3) : role (.dma (hopRecvS h)) = .hopRecv h := by revert h; decide

theorem csem_injective : Function.Injective csem := by decide
theorem kcell_injective : Function.Injective kcell := by
  rintro ⟨c, k⟩ ⟨c', k'⟩ h
  have h1 : c = c' := by have := congrArg (fun g : GSem nD τ sig => g.1.1) h; exact this
  have h2 : k = k' := csem_injective (congrArg (fun g : GSem nD τ sig => g.2) h)
  rw [h1, h2]

/-- The waits for counts name the sender's semaphore, one, two and three places on. -/
theorem wait_cnt_1 (c : Dev nD) : ((cc0_scratch4.slice (Rect.unit (s := S4) (k0_off3 c 1#32) S1.size (k0_off3_inb c 0))).squeeze S_ squeezes_S1_S_).sem = cntRecvS (rot 1 c) := by
  revert c; decide
theorem wait_cnt_2 (c : Dev nD) : ((cc0_scratch4.slice (Rect.unit (s := S4) (k0_off3 c 2#32) S1.size (k0_off3_inb c 1))).squeeze S_ squeezes_S1_S_).sem = cntRecvS (rot 2 c) := by
  revert c; decide
theorem wait_cnt_3 (c : Dev nD) : ((cc0_scratch4.slice (Rect.unit (s := S4) (k0_off3 c 3#32) S1.size (k0_off3_inb c 2))).squeeze S_ squeezes_S1_S_).sem = cntRecvS (rot 3 c) := by
  revert c; decide

/-! ## Contents -/

/-- Device `c`'s tokens, -/
def xstg (c : Dev nD) : (cc0_stg0_0 : Ref sig .tc).ty.Contents (Elt F) :=
  (win0_0.blk (0 : Fin 1)).view.read (Elt F) ((s₀ m ρ).mem ((c : Thread nD τ).loc main_arg0))
/-- their experts, -/
def routestg (c : Dev nD) : (cc0_stg1_0 : Ref sig .tc).ty.Contents (Elt F) :=
  (win0_1.blk (0 : Fin 1)).view.read (Elt F) ((s₀ m ρ).mem ((c : Thread nD τ).loc main_arg2))
/-- and its expert matrices. -/
def wstg (c : Dev nD) : (cc0_stg2_0 : Ref sig .tc).ty.Contents (Elt F) :=
  (win0_2.blk (0 : Fin 1)).view.read (Elt F) ((s₀ m ρ).mem ((c : Thread nD τ).loc main_arg3))

/-- How many of device `c`'s tokens go to each expert. -/
def mine (c : Dev nD) : (cc0_scratch1 : Ref sig .tc).ty.Contents (Elt F) :=
  k0_pay6 (iota .tc S512x16 32 [1] iota_S512x16_d1_w32) (k0_pay4 (routestg m ρ c))

/-- The counts as device `c` ends up with them: row `j` is device `j`'s, its own row is left zero. -/
def cntAll (c : Dev nD) : (cc0_scratch2 : Ref sig .tc).ty.Contents (Elt F) :=
  fun (i : S4x1x16.Idx) => if (i 0).val = c.val then (k0_pay2 (F := F)) i else mine m ρ ⟨(i 0).val, (i 0).isLt⟩ (ix2 (0 : Fin 1) (i 2))

/-- The device whose matrices device `c` has in slot `h`. -/
def src (h : Fin 4) (c : Dev nD) : Dev nD := ⟨(c.val + (4 - h.val)) % 4, Nat.mod_lt _ (by decide)⟩
theorem src_zero (c : Dev nD) : src 0 c = c := by revert c; decide
theorem src_succ (h : Fin 3) (c : Dev nD) : src h.succ (rot 1 c) = src h.castSucc c := by revert h c; decide

/-- The matrices as device `c` ends up with them: slot `h` has those of the device `h` places back. -/
def commAll (c : Dev nD) : (cc0_scratch0 : Ref sig .tc).ty.Contents (Elt F) :=
  fun (i : S4x1024x512.Idx) => k0_pay7 (wstg m ρ (src (i 0) c)) (ix3 (0 : Fin 1) (i 1) (i 2))

/-- What the slot `h` of device `c` reads as. -/
theorem read_slot (c : Dev nD) (h : Fin 4) :
    (commM.access (slotR h)).read (Elt F) (commAll m ρ c) = k0_pay7 (wstg m ρ (src h c)) := by
  funext (y : S1x1024x512.Idx)
  show k0_pay7 (wstg m ρ (src ((slotR h).emb y 0) c)) (ix3 (0 : Fin 1) ((slotR h).emb y 1) ((slotR h).emb y 2)) = _
  have h0 : (slotR h).emb y 0 = h := Fin.ext (by
    show h.val + 1 * (y 0).val = h.val
    have : (y 0).val < 1 := (y 0).isLt
    omega)
  have h1 : (ix3 (0 : Fin 1) ((slotR h).emb y 1) ((slotR h).emb y 2) : S1x1024x512.Idx) = y := by
    funext a
    match a with
    | ⟨0, _⟩ => exact Subsingleton.elim (α := Fin 1) _ _
    | ⟨1, _⟩ => exact Fin.ext (show 0 + 1 * (y 1).val = (y 1).val by omega)
    | ⟨2, _⟩ => exact Fin.ext (show 0 + 1 * (y 2).val = (y 2).val by omega)
  rw [h0]
  exact congrArg _ h1

/-- Device `c`'s slot `h`, sent to the next device's slot `h + 1`, is what belongs there. -/
theorem slot_landed (c : Dev nD) (h : Fin 3) (fd : (cc0_scratch0 : Ref sig .tc).ty.Contents (Elt F)) :
    ∀ i ∈ (slotM h.succ).view.set,
      (slotM h.succ).view.write (Elt F) fd ((slotM h.castSucc).view.read (Elt F) (commAll m ρ c)) Finset.univ i = commAll m ρ (rot 1 c) i := by
  intro i hi
  obtain ⟨x, -, rfl⟩ := Finset.mem_map.mp hi
  rw [View.write_emb_of_mem _ _ (Finset.mem_univ x)]
  have hs := congrFun (read_slot m ρ c h.castSucc) (Shape.reshapeEquiv squeezes_S1x1024x512_S1024x512.numel_eq x)
  have ht := congrFun (read_slot m ρ (rot 1 c) h.succ) (Shape.reshapeEquiv squeezes_S1x1024x512_S1024x512.numel_eq x)
  rw [src_succ] at ht
  exact hs.trans ht.symm

/-- Device `c`'s counts, sent to another device's row `c`, are what belongs there. -/
theorem row_landed (c d : Dev nD) (hcd : c ≠ d) (fd : (cc0_scratch2 : Ref sig .tc).ty.Contents (Elt F)) :
    ∀ i ∈ (rowM c).view.set,
      (rowM c).view.write (Elt F) fd ((mineM).view.read (Elt F) (mine m ρ c)) Finset.univ i = cntAll m ρ d i := by
  intro i hi
  have hi0 := (mem_row c i).mp hi
  obtain ⟨x, -, rfl⟩ := Finset.mem_map.mp hi
  rw [View.write_emb_of_mem _ _ (Finset.mem_univ x)]
  have hne : ¬ (((rowM c).view.emb x) 0).val = d.val := fun h => hcd (Fin.ext (hi0.symm.trans h))
  show mine m ρ c x = if (((rowM c).view.emb x) 0).val = d.val then _ else mine m ρ ⟨(((rowM c).view.emb x) 0).val, _⟩ (ix2 (0 : Fin 1) (((rowM c).view.emb x) 2))
  rw [if_neg hne]
  have hx : (ix2 (0 : Fin 1) (((rowM c).view.emb x) 2) : S1x16.Idx) = x := by
    have e : x = ix2 (0 : Fin 1) (x 1) := by
      rw [eq_ix2 x]; exact congrArg (fun t : Fin 1 => (ix2 t (x 1) : S1x16.Idx)) (Subsingleton.elim _ _)
    have hq : Shape.reshapeEquiv squeezes_S1x1x16_S1x16.numel_eq x = ix3 (⟨0, Nat.one_pos⟩ : Fin 1) (0 : Fin 1) (x 1) := by
      conv_lhs => rw [e]
      exact reshapeEquiv_ix2_1ab _ _ _
    refine (congrArg (fun t : Fin 16 => (ix2 (0 : Fin 1) t : S1x16.Idx)) (Fin.ext ?_)).trans e.symm
    show (k0_off2 c) 2 + 1 * ((Shape.reshapeEquiv squeezes_S1x1x16_S1x16.numel_eq x) 2).val = (x 1).val
    rw [hq, k0_off2_eq]
    show 0 + 1 * (x 1).val = (x 1).val
    omega
  have hc : (⟨(((rowM c).view.emb x) 0).val, (((rowM c).view.emb x) 0).isLt⟩ : Dev nD) = c := Fin.ext hi0
  rw [hc]
  exact (congrArg (mine m ρ c) hx).symm

/-- Its own row stays at the zeros which the kernel starts from. -/
theorem row_own (c : Dev nD) : ∀ i ∈ (rowM c).view.set, (k0_pay2 (F := F)) i = cntAll m ρ c i := by
  intro i hi
  exact (if_pos ((mem_row c i).mp hi)).symm

end Cert.KernelIdeal.Exchange
-- ==== Proof.KernelIdeal.Sched.lean ====
/-
# Who pays whom what

Every semaphore of the dispatch kernel is raised and waited for once. The schedule says, per semaphore, who
raises it and what the raise hands over:

* a barrier raise from device `p` to device `c` hands over the row `c` of `p`'s counts and, when `p` is the next
  device of the ring, `p`'s slots 1, 2 and 3 (they are `c`'s to write from then on);
* a receipt of counts hands over the row, filled; a receipt of matrices the slot, filled;
* a completed send hands the share of its source back.

Then what a device still has to pay (a list, in program order), the levels which make every wait safe, and the
points-to assertions the execution is written in.
-/
module

public import proofs.«01_k».proof.Proof.KernelIdeal.Cells

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Points-to assertions -/

/-- Row `j` of device `d`'s counts holds what `f` has there. -/
def rowPts (d j : Dev nD) (f : (cc0_scratch2 : Ref sig .tc).ty.Contents (Elt F)) : sProp 𝕄 :=
  (rowM j).view.loc (d : Thread nD τ) ↦[(rowM j).view.set]{fullShare} f
/-- Slot `h` of device `d` holds what `f` has there, at share `q`. -/
def slotPts (q : PosShare TreeShare) (d : Dev nD) (h : Fin 4) (f : (cc0_scratch0 : Ref sig .tc).ty.Contents (Elt F)) : sProp 𝕄 :=
  (slotM h).view.loc (d : Thread nD τ) ↦[(slotM h).view.set]{q} f
/-- Device `d`'s own counts, at share `q`. -/
def minePts (q : PosShare TreeShare) (d : Dev nD) (f : (cc0_scratch1 : Ref sig .tc).ty.Contents (Elt F)) : sProp 𝕄 :=
  mineM.view.loc (d : Thread nD τ) ↦[mineM.view.set]{q} f

omit [FloatOps F] in
instance rowPts_storable (d j : Dev nD) (f) : BI.Storable (upEmb : UEmb _ 𝕄) (rowPts (F := F) d j f) := by unfold rowPts; infer_instance
omit [FloatOps F] in
instance slotPts_storable (q) (d : Dev nD) (h) (f) : BI.Storable (upEmb : UEmb _ 𝕄) (slotPts (F := F) q d h f) := by unfold slotPts; infer_instance
omit [FloatOps F] in
instance minePts_storable (q) (d : Dev nD) (f) : BI.Storable (upEmb : UEmb _ 𝕄) (minePts (F := F) q d f) := by unfold minePts; infer_instance

omit [FloatOps F] in
/-- The counts buffer is its four rows. -/
theorem rows_eq (d : Dev nD) (f : (cc0_scratch2 : Ref sig .tc).ty.Contents (Elt F)) :
    (((d : Thread nD τ).loc cc0_scratch2) ↦{fullShare} f : sProp 𝕄) = bigSep Finset.univ fun j => rowPts d j f := by
  have hu : (Finset.univ : Finset (Dev nD)).biUnion (fun j => (show Finset S4x1x16.Idx from (rowM j).view.set)) = Finset.univ := by
    ext i
    simp only [Finset.mem_biUnion, Finset.mem_univ, true_and, iff_true]
    exact ⟨⟨(i 0).val, (i 0).isLt⟩, (mem_row _ i).mpr rfl⟩
  have := pointsTo_biUnion (Ix := Unit) (Val := Elt F) (Name := ℕ) (U := UU) (Lvl := ℕ) (ℓ := (d : Thread nD τ).loc cc0_scratch2) (q := fullShare) (f := f)
    (Finset.univ : Finset (Dev nD)) (fun j => ((rowM j).view.set : Finset S4x1x16.Idx))
    (fun t _ t' _ htt => Finset.disjoint_left.mpr fun i hi hi' => htt (Fin.ext (((mem_row t i).mp hi).symm.trans ((mem_row t' i).mp hi'))))
  rw [hu] at this
  exact this
omit [FloatOps F] in
/-- The travelling buffer is its four slots. -/
theorem slots_eq (d : Dev nD) (f : (cc0_scratch0 : Ref sig .tc).ty.Contents (Elt F)) :
    (((d : Thread nD τ).loc cc0_scratch0) ↦{fullShare} f : sProp 𝕄) = bigSep Finset.univ fun h => slotPts fullShare d h f := by
  have hu : (Finset.univ : Finset (Fin 4)).biUnion (fun h => (show Finset S4x1024x512.Idx from (slotM h).view.set)) = Finset.univ := by
    ext i
    simp only [Finset.mem_biUnion, Finset.mem_univ, true_and, iff_true]
    exact ⟨⟨(i 0).val, (i 0).isLt⟩, (mem_slot _ i).mpr rfl⟩
  have := pointsTo_biUnion (Ix := Unit) (Val := Elt F) (Name := ℕ) (U := UU) (Lvl := ℕ) (ℓ := (d : Thread nD τ).loc cc0_scratch0) (q := fullShare) (f := f)
    (Finset.univ : Finset (Fin 4)) (fun h => ((slotM h).view.set : Finset S4x1024x512.Idx))
    (fun t _ t' _ htt => Finset.disjoint_left.mpr fun i hi hi' => htt (Fin.ext (((mem_slot t i).mp hi).symm.trans ((mem_slot t' i).mp hi'))))
  rw [hu] at this
  exact this
omit [FloatOps F] in
theorem mine_eq (d : Dev nD) (f : (cc0_scratch1 : Ref sig .tc).ty.Contents (Elt F)) :
    minePts fullShare d f = (((d : Thread nD τ).loc cc0_scratch1) ↦{fullShare} f : sProp 𝕄) := by
  unfold minePts; rw [View.set_whole]

omit [FloatOps F] in
theorem slot_halves (d : Dev nD) (h : Fin 4) (f : (cc0_scratch0 : Ref sig .tc).ty.Contents (Elt F)) :
    slotPts fullShare d h f ⊣⊢ (iprop(slotPts fullShare.left d h f ∗ slotPts fullShare.right d h f) : sProp 𝕄) := by
  unfold slotPts; exact pointsTo_share (PosShare.mem_left_op_right _)

/-- The three shares at which a device's own counts are sent. -/
def third : Fin 3 → PosShare TreeShare := fun
  | 0 => fullShare.left | 1 => fullShare.right.left | 2 => fullShare.right.right

omit [FloatOps F] in
theorem mine_thirds (d : Dev nD) (f : (cc0_scratch1 : Ref sig .tc).ty.Contents (Elt F)) :
    minePts fullShare d f ⊣⊢ (iprop(minePts (third 0) d f ∗ minePts (third 1) d f ∗ minePts (third 2) d f) : sProp 𝕄) := by
  have h1 := pointsTo_share (Ix := Unit) (Val := Elt F) (Name := ℕ) (U := UU) (Lvl := ℕ) (ℓ := mineM.view.loc (d : Thread nD τ)) (I := mineM.view.set) (f := f)
    (PosShare.mem_left_op_right fullShare)
  have h2 := pointsTo_share (Ix := Unit) (Val := Elt F) (Name := ℕ) (U := UU) (Lvl := ℕ) (ℓ := mineM.view.loc (d : Thread nD τ)) (I := mineM.view.set) (f := f)
    (PosShare.mem_left_op_right fullShare.right)
  unfold minePts third
  exact ⟨h1.1.trans (sep_mono_right h2.1), (sep_mono_right h2.2).trans h1.2⟩

/-! ## The schedule -/

/-- What device `p`'s barrier raise hands to device `c`. -/
def barPay (p c : Dev nD) : sProp 𝕄 :=
  iprop((∃ f, rowPts p c f)
    ∗ if p = rot 1 c then iprop((∃ f, slotPts fullShare p 1 f) ∗ (∃ f, slotPts fullShare p 2 f) ∗ (∃ f, slotPts fullShare p 3 f)) else iprop(emp))

omit [FloatOps F] in
instance barPay_storable (p c : Dev nD) : BI.Storable (upEmb : UEmb _ 𝕄) (barPay (F := F) p c) := by
  unfold barPay; split <;> infer_instance

/-- Who raises a semaphore of kind `r` on device `c`: the barrier's the three other devices, any other
    one raise (named 0), the unused receipt of `c`'s own counts none. -/
def dutiesOf (c : Dev nD) : Role → Finset (Dev nD)
  | .bar => {rot 1 c, rot 2 c, rot 3 c}
  | .cntSend _ => {0}
  | .cntRecv j => if j = c then ∅ else {0}
  | .hopSend _ => {0}
  | .hopRecv _ => {0}
  | .other => ∅
/-- By how much, -/
def amountOf : Role → ℕ
  | .bar => 1
  | .cntSend _ => Nc
  | .cntRecv _ => Nc
  | .hopSend _ => Nh
  | .hopRecv _ => Nh
  | .other => 1
/-- and handing over what. -/
def payOf (c d : Dev nD) : Role → sProp 𝕄
  | .bar => barPay d c
  | .cntSend o => minePts (third o) c (mine m ρ c)
  | .cntRecv j => rowPts c j (cntAll m ρ c)
  | .hopSend h => slotPts fullShare.left c h.castSucc (commAll m ρ c)
  | .hopRecv h => slotPts fullShare c h.succ (commAll m ρ c)
  | .other => iprop(emp)

theorem amountOf_pos (r : Role) : 0 < amountOf r := by
  cases r <;> first | exact Nat.one_pos | exact Nc_pos | exact Nh_pos

/-- The exchange: one round, each raise of which happens once. -/
def Rd : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf m ρ g.1.1 d (role g.2)
  amount_pos g _ _ _ := amountOf_pos _

instance Rd_storable (g : GSem nD τ sig) (r : ℕ) (d : Dev nD) :
    BI.Storable (upEmb : UEmb _ 𝕄) ((Rd (F := F) m ρ).payload g r d) := by
  show BI.Storable upEmb (payOf m ρ g.1.1 d (role g.2))
  generalize role g.2 = k
  cases k <;> unfold payOf <;> infer_instance

theorem Rd_duties (c : Dev nD) (sm : SemLoc sig) : (Rd (F := F) m ρ).duties ((c : Thread nD τ), sm) 0 = dutiesOf c (role sm) := by
  dsimp only [Rd]; exact if_pos ⟨rfl, rfl⟩
theorem Rd_later (g : GSem nD τ sig) : ∀ r, 1 ≤ r → (Rd (F := F) m ρ).duties g r = ∅ :=
  fun r hr => by dsimp only [Rd]; exact if_neg fun h => by omega
theorem Rd_own (c : Dev nD) : ∀ r, 0 ≤ r → (Rd (F := F) m ρ).duties ((c : Thread nD τ), .dma (cntRecvS c)) r = ∅ := by
  intro r _
  show (if r = 0 ∧ ((c : Thread nD τ)).2 = .tc then dutiesOf c (role (.dma (cntRecvS c))) else ∅) = ∅
  rw [role_cntRecv]
  split
  · exact if_pos rfl
  · rfl

/-- A semaphore raised once is waited for at that raise's amount, -/
theorem Rd_expect_one {c : Dev nD} {sm : SemLoc sig} (h : dutiesOf c (role sm) = {0}) :
    (Rd (F := F) m ρ).expect ((c : Thread nD τ), sm) 0 = amountOf (role sm) := by
  unfold Schedule.expect Schedule.amountOf
  rw [Rd_duties, h, Finset.sum_singleton]; rfl
/-- and the wait receives what the raise handed over. -/
theorem Rd_rest_one {c : Dev nD} {sm : SemLoc sig} (h : dutiesOf c (role sm) = {0}) :
    bigSep ((Rd (F := F) m ρ).duties ((c : Thread nD τ), sm) 0 \ ∅) (fun d => (Rd (F := F) m ρ).payload ((c : Thread nD τ), sm) 0 d) = payOf m ρ c 0 (role sm) := by
  rw [Finset.sdiff_empty, Rd_duties, h, bigSep_singleton]; rfl

theorem Rd_expect_bar (c : Dev nD) : (Rd (F := F) m ρ).expect ((c : Thread nD τ), .reg barS) 0 = 3 := by
  unfold Schedule.expect Schedule.amountOf
  rw [Rd_duties, role_bar, Finset.sum_congr rfl fun d _ => show (Rd (F := F) m ρ).amount ((c : Thread nD τ), .reg barS) 0 d = 1 by
    show amountOf (role (.reg barS)) = 1; rw [role_bar]; rfl]
  rw [Finset.sum_const, smul_eq_mul, Nat.mul_one]
  revert c; decide
/-- The barrier wait receives all three rows to write, and the next device's slots. -/
theorem Rd_rest_bar (c : Dev nD) :
    bigSep ((Rd (F := F) m ρ).duties ((c : Thread nD τ), .reg barS) 0 \ ∅) (fun d => (Rd (F := F) m ρ).payload ((c : Thread nD τ), .reg barS) 0 d)
      = iprop(barPay (rot 1 c) c ∗ barPay (rot 2 c) c ∗ barPay (rot 3 c) c) := by
  rw [Finset.sdiff_empty, Rd_duties, role_bar, bigSep_eq_bigSepL_of_eq [rot 1 c, rot 2 c, rot 3 c] (by revert c; decide) (by revert c; decide),
    bigSepL_cons_cons, bigSepL_cons_cons, bigSepL_singleton]
  show iprop(payOf m ρ c (rot 1 c) (role (.reg barS)) ∗ payOf m ρ c (rot 2 c) (role (.reg barS)) ∗ payOf m ρ c (rot 3 c) (role (.reg barS))) = _
  rw [role_bar]; rfl

/-! ## What is owed, and the levels -/

/-- The amount of semaphore `k`. -/
def amt (k : Fin 14) : ℕ := amountOf (role (csem k))

/-- The debt of the payments `l`, the first of which is made first. -/
def owing : List (Dev nD × Fin 14) → CellTallies nD τ sig Unit
  | [] => 0
  | x :: l => owing l + tallyAt (kcell x) () (amt x.2)

/-- What device `c` has to pay from the start, in the order it pays. -/
def debts (c : Dev nD) : List (Dev nD × Fin 14) :=
  [(rot 1 c, 0), (rot 2 c, 0), (rot 3 c, 0),
   (rot 1 c, ixCntRecv c), (rot 2 c, ixCntRecv c), (rot 3 c, ixCntRecv c),
   (rot 1 c, ixHopRecv 0), (rot 1 c, ixHopRecv 1), (rot 1 c, ixHopRecv 2)]

theorem owing_apply (l : List (Dev nD × Fin 14)) (x : Dev nD × Fin 14) : owing l (kcell x) () = l.count x * amt x.2 := by
  induction l with
  | nil => rw [List.count_nil, Nat.zero_mul]; rfl
  | cons y l ih =>
    show (owing l + tallyAt (kcell y) () (amt y.2)) (kcell x) () = _
    rw [Pi.add_apply, Finsupp.add_apply, ih, tallyAt_apply, List.count_cons]
    by_cases h : y = x
    · subst h; rw [if_pos ⟨rfl, rfl⟩]; simp [Nat.add_mul]
    · rw [if_neg fun hh => h (kcell_injective hh.1).symm]; simp [h]

theorem owing_pos {l : List (Dev nD × Fin 14)} {g : GSem nD τ sig} {u : Unit} (h : 0 < owing l g u) : ∃ x ∈ l, g = kcell x := by
  induction l with
  | nil => exact absurd h (Nat.lt_irrefl 0)
  | cons y l ih =>
    change 0 < (owing l + tallyAt (kcell y) () (amt y.2)) g u at h
    rw [Pi.add_apply, Finsupp.add_apply, tallyAt_apply] at h
    by_cases hg : g = kcell y
    · exact ⟨y, List.mem_cons_self, hg⟩
    · rw [if_neg fun hh => hg hh.1, Nat.add_zero] at h
      obtain ⟨x, hx, e⟩ := ih h
      exact ⟨x, List.mem_cons_of_mem _ hx, e⟩

/-- Levels: the pipeline's and the sends' semaphores below the barrier, it below the counts, these below the hops in their order. -/
def lvOf : Role → ℕ
  | .bar => 1
  | .cntRecv _ => 2
  | .hopRecv h => 3 + h.val
  | _ => 0
def L (g : GSem nD τ sig) : Finset Unit := if g.1.2 = .tc then {()} else ∅
def lv (g : GSem nD τ sig) (_ : Unit) : ℕ := lvOf (role g.2)

theorem L_of_ne (g : GSem nD τ sig) (h : g.1.2 ≠ .tc) : L g = ∅ := if_neg h

omit [FloatOps F] in
/-- A device may wait for a semaphore which lies below everything it still owes. -/
theorem mayWait (c : Dev nD) (sm : SemLoc sig) (l : List (Dev nD × Fin 14)) (h : ∀ x ∈ l, lvOf (role sm) < lvOf (role (csem x.2))) :
    (levAts L lv : sProp 𝕄) ⊢ MayWait (c : Thread nD τ) sm () (owing l) :=
  MayOwe.of_cut (L := L) (lev := lv) (lvOf (role sm))
    (fun p hp => by rw [Finset.mem_singleton.mp hp]; exact Finset.mem_singleton_self _)
    (fun g u hg => by obtain ⟨x, -, rfl⟩ := owing_pos hg; exact Finset.mem_singleton_self _)
    (fun p hp => by rw [Finset.mem_singleton.mp hp]; exact Nat.le_refl _)
    (fun g u hg => by obtain ⟨x, hx, rfl⟩ := owing_pos hg; exact h x hx)

/-! ## What the launch deals out -/

/-- The fifteen payments of device `c`, as (the semaphore raised, the raise's name): the nine it owes, and its own six sends'. -/
def pay (c : Dev nD) : Fin 15 → (Dev nD × Fin 14) × Dev nD := fun
  | 0 => ((rot 1 c, 0), c) | 1 => ((rot 2 c, 0), c) | 2 => ((rot 3 c, 0), c)
  | 3 => ((rot 1 c, ixCntRecv c), 0) | 4 => ((rot 2 c, ixCntRecv c), 0) | 5 => ((rot 3 c, ixCntRecv c), 0)
  | 6 => ((rot 1 c, ixHopRecv 0), 0) | 7 => ((rot 1 c, ixHopRecv 1), 0) | 8 => ((rot 1 c, ixHopRecv 2), 0)
  | 9 => ((c, ixCntSend 0), 0) | 10 => ((c, ixCntSend 1), 0) | 11 => ((c, ixCntSend 2), 0)
  | 12 => ((c, ixHopSend 0), 0) | 13 => ((c, ixHopSend 1), 0) | 14 => ((c, ixHopSend 2), 0)

theorem pay_injective : Function.Injective fun x : Dev nD × Fin 15 => pay x.1 x.2 := by decide +kernel

/-- The right to payment `p` of device `c`. -/
def tok (c : Dev nD) (p : Fin 15) : sProp 𝕄 := dutyTok ER (kcell (pay c p).1) 0 (pay c p).2

/-- The units device `c` may wait for on semaphore `k`: as many as all devices together owe it. -/
def credits (c : Dev nD) (k : Fin 14) : ℕ := (∑ d : Dev nD, (debts d).count (c, k)) * amt k

/-- What all devices know of all semaphores: their invariants, and that the round has begun. -/
def records (K : Dev nD × Fin 14 → ℕ) : sProp 𝕄 :=
  iprop((bigSep Finset.univ fun x : Dev nD × Fin 14 => cellInv ER (Rd m ρ) (K x) (kcell x))
    ∗ bigSep Finset.univ fun x : Dev nD × Fin 14 => reached ER (kcell x) 0)

instance records_persistent (K : Dev nD × Fin 14 → ℕ) : BI.Persistent (records m ρ K) := by unfold records; infer_instance

theorem records_inv (K : Dev nD × Fin 14 → ℕ) (x : Dev nD × Fin 14) : records m ρ K ⊢ cellInv ER (Rd m ρ) (K x) (kcell x) := by
  unfold records
  iintro ⟨H, -⟩
  have h : (bigSep Finset.univ fun x : Dev nD × Fin 14 => (cellInv ER (Rd m ρ) (K x) (kcell x) : sProp 𝕄)) ⊢ cellInv ER (Rd m ρ) (K x) (kcell x) := bigSep_elim (Finset.mem_univ x)
  iapply h; iexact H
theorem records_reached (K : Dev nD × Fin 14 → ℕ) (x : Dev nD × Fin 14) : records m ρ K ⊢ reached ER (kcell x) 0 := by
  unfold records
  iintro ⟨-, H⟩
  have h : (bigSep Finset.univ fun x : Dev nD × Fin 14 => (reached ER (kcell x) 0 : sProp 𝕄)) ⊢ reached ER (kcell x) 0 := bigSep_elim (Finset.mem_univ x)
  iapply h; iexact H

/-- What device `c` starts its exchange from: the records, its own positions, its payments. -/
def ghost (K : Dev nD × Fin 14 → ℕ) (c : Dev nD) : sProp 𝕄 :=
  iprop(records m ρ K ∗ (bigSep Finset.univ fun k : Fin 14 => atPos ER (kcell (c, k)) 0 ∅ 0) ∗ bigSep Finset.univ fun p : Fin 15 => tok c p)

end Cert.KernelIdeal.Exchange
-- ==== Proof.KernelIdeal.Steps.lean ====
/-
# One step at a time

The rules by which the execution of the dispatch kernel is followed: a barrier raise, a transfer of counts, a
transfer of one device's matrices to the next, and a wait, each stated at this kernel's semaphores with what it
takes and what it gives back.
-/
module

public import proofs.«01_k».proof.Proof.KernelIdeal.Sched

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c`, to the postcondition `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` still has the payments `l` to make. -/
def due (c : Dev nD) (l : List (Dev nD × Fin 14)) : sProp 𝕄 := iprop(∃ W, owes (c : Thread nD τ) (owing l) W)

variable (K : Dev nD × Fin 14 → ℕ)

/-- A barrier raise from `c` to `t`. -/
theorem step_signal (c n t : Dev nD) (hn : n = t) (hc : c ∈ dutiesOf t .bar) (l : List (Dev nD × Fin 14)) {k' : ℕ} (hk' : 1 = k')
    {α : Type} {Q : α → sProp 𝕄} {k : PUnit → Prog (TpuEff nD τ sig (Elt F) Λ₀ .tc) α} :
    iprop(records m ρ K ∗ due c ((t, 0) :: l) ∗ dutyTok ER (kcell (t, 0)) 0 c ∗ barPay c t)
      ⊢ iprop((due c l -∗ runs c (k ⟨⟩) Q) -∗ runs c (.op (.semSignal (n : Thread nD τ) barS k') k) Q) := by
  subst hn
  unfold due
  iintro ⟨#HR, ⟨%W, HO⟩, Htok, Hpay⟩ Hk
  iapply (Rounds.wp_signal 𝒱₀ ER (Rd m ρ) (c : Thread nD τ) none (dst := (n : Thread nD τ)) (κ := K (n, 0)) (d := c) (r := 0)
      (by rw [Rd_duties, role_bar]; exact hc) (by rw [← hk']; show amountOf (role (.reg barS)) = 1; rw [role_bar]; rfl) () (owing l)
      (show owing l + tallyAt (kcell (n, 0)) () (amt 0) = _ by
        rw [← hk']; exact congrArg (fun x => owing l + tallyAt (kcell (n, 0)) () x) (show amountOf (role (.reg barS)) = 1 by rw [role_bar]; rfl)))
    $$ [HO Htok Hpay]
  · isplitr; · iapply (records_inv m ρ K (n, 0)); iexact HR
    isplitl [HO]; · iexact HO
    isplitl [Htok]; · iexact Htok
    isplitl [Hpay]
    · rw [show (Rd (F := F) m ρ).payload ((n : Thread nD τ), .reg barS) 0 c = barPay c n by
        show payOf m ρ n c (role (.reg barS)) = _; rw [role_bar]; rfl]
      iexact Hpay
    iapply (records_reached m ρ K (n, 0)); iexact HR
  iintro HO
  iapply Hk
  iexists W; iexact HO

/-- The wait for the three barrier raises. -/
theorem step_barrier (c : Dev nD) (l : List (Dev nD × Fin 14)) (hl : ∀ x ∈ l, 1 < lvOf (role (csem x.2))) {n : ℕ} (hn : 3 = n)
    {α : Type} {Q : α → sProp 𝕄} {k : PUnit → Prog (TpuEff nD τ sig (Elt F) Λ₀ .tc) α} :
    iprop(records m ρ K ∗ levAts L lv ∗ cred (tallyAt (kcell (c, 0)) () 3) ∗ due c l ∗ atPos ER (kcell (c, 0)) 0 ∅ 0)
      ⊢ iprop((due c l ∗ atPos ER (kcell (c, 0)) 1 ∅ 0 ∗ barPay (rot 1 c) c ∗ barPay (rot 2 c) c ∗ barPay (rot 3 c) c -∗ runs c (k ⟨⟩) Q)
          -∗ runs c (.op (.semWait barS n) k) Q) := by
  subst hn
  unfold due
  iintro ⟨#HR, #Hlev, Hc, ⟨%W, HO⟩, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owing l) (W := W) (R := 0) (m := 0) (T := ∅)
      (by rw [Rd_expect_bar])) $$ [Hc HO Hat]
  · isplitr; · iapply (records_inv m ρ K (c, 0)); iexact HR
    isplitl [Hc]; · iexact Hc
    isplitl [HO]; · iexact HO
    isplitr
    · iapply (mayWait (F := F) c (.reg barS) l (by rw [role_bar]; exact hl)); iexact Hlev
    iexact Hat
  iintro ⟨HO, Hat, -, Hpay⟩
  iapply Hk
  isplitl [HO]; · iexists (insert (SemLoc.reg barS, ()) W); iexact HO
  isplitl [Hat]; · iexact Hat
  iapply (Entails.of_eq (Rd_rest_bar m ρ c)); iexact Hpay

/-- A wait for a transfer, at the semaphore `x` of device `c`: it receives what the transfer's end hands over. -/
theorem step_wait (c : Dev nD) (x : Fin 14) (s : DmaSem sig) (hs : csem x = .dma s) (hd : dutiesOf c (role (.dma s)) = {0})
    (l : List (Dev nD × Fin 14)) (hl : ∀ y ∈ l, lvOf (role (.dma s)) < lvOf (role (csem y.2)))
    {sp sp' : Space} {s1 s2 : Shape} {e1 e2 : EltTy}
    {src : Memref sig .tc sp' s1 e1} {dst : Memref sig .tc sp s2 e2} {hsrc : src.view.WordExact} {hdst : dst.view.WordExact}
    (N : ℕ) (hN : amountOf (role (.dma s)) = N) (hdst' : dst.view.dmaCredit = N)
    {α : Type} {Q : α → sProp 𝕄} {k : PUnit → Prog (TpuEff nD τ sig (Elt F) Λ₀ .tc) α} :
    iprop(records m ρ K ∗ levAts L lv ∗ cred (tallyAt (kcell (c, x)) () N) ∗ due c l ∗ atPos ER (kcell (c, x)) 0 ∅ 0)
      ⊢ iprop((due c l ∗ atPos ER (kcell (c, x)) 1 ∅ 0 ∗ payOf m ρ c 0 (role (.dma s)) -∗ runs c (k ⟨⟩) Q)
          -∗ runs c (.op (.waitDma2 s src dst hsrc hdst) k) Q) := by
  subst hdst'
  have hx : kcell (c, x) = ((c : Thread nD τ), .dma s) := by show ((c : Thread nD τ), csem x) = _; rw [hs]
  have hI := records_inv m ρ K (c, x)
  rw [hx] at hI ⊢
  unfold due
  iintro ⟨#HR, #Hlev, Hc, ⟨%W, HO⟩, Hat⟩ Hk
  iapply (Rounds.wp_wait_rest_token 𝒱₀ ER (Rd m ρ) (c : Thread nD τ) none (κ := K (c, x))
      (wpE_waitDma2_eq 𝒱₀ (c : Thread nD τ) none Set.univ) (Set.mem_univ _) () (O := owing l) (W := W) (R := 0) (m := 0) (T := ∅)
      (by rw [Rd_expect_one m ρ hd, hN, Nat.zero_add])) $$ [Hc HO Hat]
  · isplitr; · iapply hI; iexact HR
    isplitl [Hc]; · iexact Hc
    isplitl [HO]; · iexact HO
    isplitr
    · iapply (mayWait (F := F) c (.dma s) l hl); iexact Hlev
    iexact Hat
  iintro ⟨HO, Hat, -, Hpay⟩
  iapply Hk
  isplitl [HO]; · iexists (insert (SemLoc.dma s, ()) W); iexact HO
  isplitl [Hat]; · iexact Hat
  iapply (Entails.of_eq (Rd_rest_one m ρ hd)); iexact Hpay

/-- Device `c`'s counts go to row `c` of device `t`. -/
theorem step_send_counts (c n t : Dev nD) (hn : n = t) (hct : c ≠ t) (o : Fin 3) (l : List (Dev nD × Fin 14))
    {sS : DmaSem sig} (hsS : sS = cntSendS o)
    {hsc : (rowM c : Memref sig (Dev.tc n : Thread nD τ).2.kind .vmem S1x16 .f32).view.ref.isScScratch = false}
    {hsrc : (mineM : Memref sig .tc .vmem S1x16 .f32).view.WordExact} {hdst : (rowM c).view.WordExact}
    {hsem : DmaTarget.Typed .vmem (.dma (cntRecvS c)) (.remote (Dev.tc n : Thread nD τ) (rowM c : Memref sig .tc .vmem S1x16 .f32) (.dma sS) hsc)}
    (fd : (cc0_scratch2 : Ref sig .tc).ty.Contents (Elt F))
    {α : Type} {Q : α → sProp 𝕄} {k : PUnit → Prog (TpuEff nD τ sig (Elt F) Λ₀ .tc) α} :
    iprop(records m ρ K ∗ minePts (third o) c (mine m ρ c) ∗ rowPts t c fd ∗ due c ((t, ixCntRecv c) :: l)
        ∗ dutyTok ER (kcell (c, ixCntSend o)) 0 0 ∗ dutyTok ER (kcell (t, ixCntRecv c)) 0 0)
      ⊢ iprop((cred (tallyAt (kcell (c, ixCntSend o)) () Nc) ∗ due c l -∗ runs c (k ⟨⟩) Q)
          -∗ runs c (.op (.enqueueDma mineM (.remote (Dev.tc n : Thread nD τ) (rowM c) (.dma sS) hsc) (.dma (cntRecvS c)) hsrc hdst hsem) k) Q) := by
  subst hn; subst hsS
  have e1 : kcell (c, ixCntSend o) = ((c : Thread nD τ), .dma (cntSendS o)) := by show ((c : Thread nD τ), csem _) = _; rw [csem_cntSend]
  have e2 : kcell (n, ixCntRecv c) = ((n : Thread nD τ), .dma (cntRecvS c)) := by show ((n : Thread nD τ), csem _) = _; rw [csem_cntRecv]
  have hI1 := records_inv m ρ K (c, ixCntSend o)
  have hI2 := records_inv m ρ K (n, ixCntRecv c)
  have hR1 := records_reached m ρ K (c, ixCntSend o)
  have hR2 := records_reached m ρ K (n, ixCntRecv c)
  have hO : owing ((n, ixCntRecv c) :: l) = owing l + tallyAt ((n : Thread nD τ), .dma (cntRecvS c)) () Nc := by
    show owing l + tallyAt (kcell (n, ixCntRecv c)) () (amountOf (role (csem (ixCntRecv c)))) = _
    rw [csem_cntRecv, role_cntRecv, e2]; rfl
  rw [e1] at hI1 hR1 ⊢
  rw [e2] at hI2 hR2 ⊢
  unfold due minePts rowPts
  rw [hO]
  iintro ⟨#HR, Hsrc, Hdst, ⟨%W, HO⟩, Ht1, Ht2⟩ Hk
  iapply (Rounds.wp_send_pointsTo 𝒱₀ ER (Rd m ρ) (c : Thread nD τ) none (κ₁ := K (c, ixCntSend o)) (κ₂ := K (n, ixCntRecv c))
      (r₁ := 0) (r₂ := 0) (d₁ := 0) (d₂ := 0) (fd := fd) (fs := mine m ρ c) (q := third o)
      (by rw [Rd_duties, role_cntSend]; exact Finset.mem_singleton_self _)
      (by rw [Rd_duties, role_cntRecv]; show (0 : Dev nD) ∈ (if c = n then (∅ : Finset (Dev nD)) else {0}); rw [if_neg hct]; exact Finset.mem_singleton_self _)
      () () Nc rfl (by show amountOf (role (.dma (cntSendS o))) = Nc; rw [role_cntSend]; rfl)
      (by show amountOf (role (.dma (cntRecvS c))) = Nc; rw [role_cntRecv]; rfl) (owing l) rfl (W := W)
      (by
        show _ ⊢ payOf m ρ c 0 (role (.dma (cntSendS o)))
        rw [role_cntSend]; exact BI.Entails.refl _)
      (by
        show _ ⊢ payOf m ρ n 0 (role (.dma (cntRecvS c)))
        rw [role_cntRecv]
        exact Entails.of_eq (pointsTo_congr (row_landed m ρ c n hct fd))))
    $$ [Hsrc Hdst HO Ht1 Ht2]
  · isplitr; · iapply hI1; iexact HR
    isplitr; · iapply hI2; iexact HR
    isplitl [Hsrc]; · iexact Hsrc
    isplitl [Hdst]; · iexact Hdst
    isplitl [HO]; · iexact HO
    isplitl [Ht1]; · iexact Ht1
    isplitr; · iapply hR1; iexact HR
    isplitl [Ht2]; · iexact Ht2
    iapply hR2; iexact HR
  iintro ⟨Hc, HO⟩
  iapply Hk
  isplitl [Hc]; · iexact Hc
  iexists W; iexact HO

/-- Device `c`'s slot `h` goes to slot `h + 1` of the next device, half its share staying with `c`. -/
theorem step_send_hop (c n : Dev nD) (hn : n = rot 1 c) (h : Fin 3) (l : List (Dev nD × Fin 14))
    {sS sR : DmaSem sig} (hsS : sS = hopSendS h) (hsR : sR = hopRecvS h)
    {src dst : Memref sig .tc .vmem S1024x512 .bf16} (hsrc' : src = slotM h.castSucc) (hdst' : dst = slotM h.succ)
    {hsc : (dst : Memref sig (Dev.tc n : Thread nD τ).2.kind .vmem S1024x512 .bf16).view.ref.isScScratch = false}
    {hsrc : src.view.WordExact} {hdst : dst.view.WordExact}
    {hsem : DmaTarget.Typed .vmem (.dma sR) (.remote (Dev.tc n : Thread nD τ) (dst : Memref sig .tc .vmem S1024x512 .bf16) (.dma sS) hsc)}
    (fd : (cc0_scratch0 : Ref sig .tc).ty.Contents (Elt F))
    {α : Type} {Q : α → sProp 𝕄} {k : PUnit → Prog (TpuEff nD τ sig (Elt F) Λ₀ .tc) α} :
    iprop(records m ρ K ∗ slotPts fullShare.left c h.castSucc (commAll m ρ c) ∗ slotPts fullShare (rot 1 c) h.succ fd
        ∗ due c ((rot 1 c, ixHopRecv h) :: l)
        ∗ dutyTok ER (kcell (c, ixHopSend h)) 0 0 ∗ dutyTok ER (kcell (rot 1 c, ixHopRecv h)) 0 0)
      ⊢ iprop((cred (tallyAt (kcell (c, ixHopSend h)) () Nh) ∗ due c l -∗ runs c (k ⟨⟩) Q)
          -∗ runs c (.op (.enqueueDma src (.remote (Dev.tc n : Thread nD τ) dst (.dma sS) hsc) (.dma sR) hsrc hdst hsem) k) Q) := by
  subst hn; subst hsS; subst hsR; subst hsrc'; subst hdst'
  have e1 : kcell (c, ixHopSend h) = ((c : Thread nD τ), .dma (hopSendS h)) := by show ((c : Thread nD τ), csem _) = _; rw [csem_hopSend]
  have e2 : kcell (rot 1 c, ixHopRecv h) = ((rot 1 c : Thread nD τ), .dma (hopRecvS h)) := by show ((rot 1 c : Thread nD τ), csem _) = _; rw [csem_hopRecv]
  have hI1 := records_inv m ρ K (c, ixHopSend h)
  have hI2 := records_inv m ρ K (rot 1 c, ixHopRecv h)
  have hR1 := records_reached m ρ K (c, ixHopSend h)
  have hR2 := records_reached m ρ K (rot 1 c, ixHopRecv h)
  have hO : owing ((rot 1 c, ixHopRecv h) :: l) = owing l + tallyAt ((rot 1 c : Thread nD τ), .dma (hopRecvS h)) () Nh := by
    show owing l + tallyAt (kcell (rot 1 c, ixHopRecv h)) () (amountOf (role (csem (ixHopRecv h)))) = _
    rw [csem_hopRecv, role_hopRecv, e2]; rfl
  rw [e1] at hI1 hR1 ⊢
  rw [e2] at hI2 hR2 ⊢
  unfold due slotPts
  rw [hO]
  iintro ⟨#HR, Hsrc, Hdst, ⟨%W, HO⟩, Ht1, Ht2⟩ Hk
  iapply (Rounds.wp_send_pointsTo 𝒱₀ ER (Rd m ρ) (c : Thread nD τ) none (κ₁ := K (c, ixHopSend h)) (κ₂ := K (rot 1 c, ixHopRecv h))
      (r₁ := 0) (r₂ := 0) (d₁ := 0) (d₂ := 0) (fd := fd) (fs := commAll m ρ c) (q := fullShare.left)
      (by rw [Rd_duties, role_hopSend]; exact Finset.mem_singleton_self _)
      (by rw [Rd_duties, role_hopRecv]; exact Finset.mem_singleton_self _)
      () () Nh rfl (by show amountOf (role (.dma (hopSendS h))) = Nh; rw [role_hopSend]; rfl)
      (by show amountOf (role (.dma (hopRecvS h))) = Nh; rw [role_hopRecv]; rfl) (owing l) rfl (W := W)
      (by
        show _ ⊢ payOf m ρ c 0 (role (.dma (hopSendS h)))
        rw [role_hopSend]; exact BI.Entails.refl _)
      (by
        show _ ⊢ payOf m ρ (rot 1 c) 0 (role (.dma (hopRecvS h)))
        rw [role_hopRecv]
        exact Entails.of_eq (pointsTo_congr (slot_landed m ρ c h fd))))
    $$ [Hsrc Hdst HO Ht1 Ht2]
  · isplitr; · iapply hI1; iexact HR
    isplitr; · iapply hI2; iexact HR
    isplitl [Hsrc]; · iexact Hsrc
    isplitl [Hdst]; · iexact Hdst
    isplitl [HO]; · iexact HO
    isplitl [Ht1]; · iexact Ht1
    isplitr; · iapply hR1; iexact HR
    isplitl [Ht2]; · iexact Ht2
    iapply hR2; iexact HR
  iintro ⟨Hc, HO⟩
  iapply Hk
  isplitl [Hc]; · iexact Hc
  iexists W; iexact HO

/-- A semaphore whose one round is over is the device's own again, at zero; -/
theorem close_done (c : Dev nD) (x : Fin 14) :
    iprop(records m ρ K ∗ atPos ER (kcell (c, x)) 1 ∅ 0) ⊢ (|={Set.univ}=> semVal (kcell (c, x)) 0 : sProp 𝕄) := by
  have hI := records_inv m ρ K (c, x)
  iintro ⟨#HR, Hat⟩
  iapply (Rounds.cell_close ER (Rd m ρ) (Set.mem_univ (K (c, x))) (fun h => h) (R := 1) (Rd_later m ρ (kcell (c, x))))
  isplitr; · iapply hI; iexact HR
  iexact Hat

/-- so is the one for its own counts, which nothing ever raises. -/
theorem close_own (c : Dev nD) :
    iprop(records m ρ K ∗ atPos ER (kcell (c, ixCntRecv c)) 0 ∅ 0) ⊢ (|={Set.univ}=> semVal (kcell (c, ixCntRecv c)) 0 : sProp 𝕄) := by
  have e : kcell (c, ixCntRecv c) = ((c : Thread nD τ), .dma (cntRecvS c)) := by show ((c : Thread nD τ), csem _) = _; rw [csem_cntRecv]
  have hI := records_inv m ρ K (c, ixCntRecv c)
  rw [e] at hI ⊢
  iintro ⟨#HR, Hat⟩
  iapply (Rounds.cell_close ER (Rd m ρ) (Set.mem_univ (K (c, ixCntRecv c))) (fun h => h) (R := 0) (Rd_own m ρ c))
  isplitr; · iapply hI; iexact HR
  iexact Hat

end Cert.KernelIdeal.Exchange
-- ==== Proof.KernelIdeal.Body.lean ====
/-
# The dispatch kernel's body

What device `c` computes, as a chain of the kernel's own values, and the execution of its body from its first
barrier raise to the store of its block of the result.
-/
module

public import proofs.«01_k».proof.Proof.KernelIdeal.Steps
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What device `c` computes -/

/-- Device `c`'s number as the kernel computes it, -/
def me (c : Dev nD) : BitVec 32 := Scalar.remsi (Scalar.divsi (Dev.word c) 1#32) 4#32
/-- the expert of each of its tokens, -/
def experts (c : Dev nD) : IVec S512 32 := k0_pay3 (routestg m ρ c)
/-- its tokens against the experts, one where they meet, -/
def onehot (c : Dev nD) : FVec F S512x16 .f32 := k0_pay5 (iota .tc S512x16 32 [1] iota_S512x16_d1_w32) (k0_pay4 (routestg m ρ c))
/-- how many tokens come before each token at its expert, -/
def rank (c : Dev nD) : FVec F S512 .f32 := k0_pay8 (me c) (onehot m ρ c) (cntAll m ρ c)
/-- the capacity, -/
def capacity : F .f32 := Scalar.ofBits .f32 0x42CC0000#32
/-- which tokens are kept, -/
def kept (c : Dev nD) : IVec S512 1 := k0_pay9 (rank m ρ c) (capacity (F := F))
/-- its tokens, -/
def tokens (c : Dev nD) : FVec F S512x256 .bf16 := k0_pay10 (xstg m ρ c)
/-- the matrices it has in slot `h`, -/
def slotVal (h : Fin 4) (c : Dev nD) : Vec F S1x1024x512 .bf16 := k0_pay7 (wstg m ρ (src h c))
/-- the number of the device which slot `h` comes from, -/
def srcWord (h : BitVec 32) (c : Dev nD) : BitVec 32 := Scalar.remsi (Scalar.addi (Scalar.subi (me c) h) 4#32) 4#32
/-- and the result so far, after slot 0, -/
def acc0 (c : Dev nD) : FVec F S512x512 .f32 :=
  k0_pay15 (experts m ρ c) (kept m ρ c) (tokens m ρ c) (k0_pay11 (F := F)) (k0_pay12 (slotVal m ρ 0 c)) (srcWord 0#32 c)
    (k0_pay13 (me c) (experts m ρ c) (rank m ρ c) (capacity (F := F)) (xstg m ρ c)) (k0_pay14 (me c) (experts m ρ c))
/-- slot 1, -/
def acc1 (c : Dev nD) : FVec F S512x512 .f32 :=
  k0_pay18 (experts m ρ c) (kept m ρ c) (tokens m ρ c) (acc0 m ρ c) (k0_pay16 (slotVal m ρ 1 c)) (srcWord 1#32 c)
    (k0_pay17 (me c) (experts m ρ c) (kept m ρ c) (tokens m ρ c)) (Scalar.muli (srcWord 1#32 c) 4#32) 1#32
/-- slot 2, -/
def acc2 (c : Dev nD) : FVec F S512x512 .f32 :=
  k0_pay21 (experts m ρ c) (kept m ρ c) (tokens m ρ c) (acc1 m ρ c) (k0_pay19 (slotVal m ρ 2 c)) (srcWord 2#32 c)
    (k0_pay20 (me c) (experts m ρ c) (kept m ρ c) (tokens m ρ c))
/-- and slot 3: what it stores. -/
def outAt (c : Dev nD) : (cc0_stg3_0 : Ref sig .tc).ty.Contents (Elt F) :=
  k0_pay1 (experts m ρ c) (kept m ρ c) (tokens m ρ c) (acc2 m ρ c) (k0_pay22 (slotVal m ρ 3 c)) (srcWord 3#32 c)
    (k0_pay23 (me c) (experts m ρ c) (kept m ρ c) (tokens m ρ c)) (k0_pay24 (me c) (experts m ρ c) (kept m ρ c) (tokens m ρ c)) (k0_pay25 (me c))

/-! ## The parts of a device's buffers and semaphores, in the order it meets them -/

omit [FloatOps F] in
/-- The fourteen semaphores, those for received counts by distance. -/
theorem each_sem (c : Dev nD) (Φ : Fin 14 → sProp 𝕄) : bigSep Finset.univ Φ
    = iprop(Φ 0 ∗ Φ (ixCntSend 0) ∗ Φ (ixCntSend 1) ∗ Φ (ixCntSend 2)
        ∗ Φ (ixCntRecv (rot 1 c)) ∗ Φ (ixCntRecv (rot 2 c)) ∗ Φ (ixCntRecv (rot 3 c)) ∗ Φ (ixCntRecv c)
        ∗ Φ (ixHopSend 0) ∗ Φ (ixHopSend 1) ∗ Φ (ixHopSend 2) ∗ Φ (ixHopRecv 0) ∗ Φ (ixHopRecv 1) ∗ Φ (ixHopRecv 2)) :=
  bigSep_univ_eq_bigSepL [0, ixCntSend 0, ixCntSend 1, ixCntSend 2, ixCntRecv (rot 1 c), ixCntRecv (rot 2 c), ixCntRecv (rot 3 c), ixCntRecv c,
    ixHopSend 0, ixHopSend 1, ixHopSend 2, ixHopRecv 0, ixHopRecv 1, ixHopRecv 2] (by revert c; decide) (by revert c; decide) Φ

omit [FloatOps F] in
theorem each_pay (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The fifteen payments, as tokens. -/
theorem each_tok (c : Dev nD) : (bigSep Finset.univ fun p : Fin 15 => (tok c p : sProp 𝕄))
    = iprop(dutyTok ER (kcell (rot 1 c, 0)) 0 c ∗ dutyTok ER (kcell (rot 2 c, 0)) 0 c ∗ dutyTok ER (kcell (rot 3 c, 0)) 0 c
        ∗ dutyTok ER (kcell (rot 1 c, ixCntRecv c)) 0 0 ∗ dutyTok ER (kcell (rot 2 c, ixCntRecv c)) 0 0 ∗ dutyTok ER (kcell (rot 3 c, ixCntRecv c)) 0 0
        ∗ dutyTok ER (kcell (rot 1 c, ixHopRecv 0)) 0 0 ∗ dutyTok ER (kcell (rot 1 c, ixHopRecv 1)) 0 0 ∗ dutyTok ER (kcell (rot 1 c, ixHopRecv 2)) 0 0
        ∗ dutyTok ER (kcell (c, ixCntSend 0)) 0 0 ∗ dutyTok ER (kcell (c, ixCntSend 1)) 0 0 ∗ dutyTok ER (kcell (c, ixCntSend 2)) 0 0
        ∗ dutyTok ER (kcell (c, ixHopSend 0)) 0 0 ∗ dutyTok ER (kcell (c, ixHopSend 1)) 0 0 ∗ dutyTok ER (kcell (c, ixHopSend 2)) 0 0) := by
  rw [each_pay]
  simp only [tok, pay]

/-! ## Ring and order facts -/

theorem ring_ne (c : Dev nD) : c ≠ rot 1 (rot 1 c) ∧ c ≠ rot 1 (rot 2 c) ∧ rot 2 c ≠ rot 1 c ∧ rot 3 c ≠ rot 1 c := by revert c; decide
theorem raises (c : Dev nD) : c ∈ dutiesOf (rot 1 c) .bar ∧ c ∈ dutiesOf (rot 2 c) .bar ∧ c ∈ dutiesOf (rot 3 c) .bar := by revert c; decide
theorem duty_cntRecv (c : Dev nD) (k : ℕ) (hk : k = 1 ∨ k = 2 ∨ k = 3) : dutiesOf c (role (.dma (cntRecvS (rot k c)))) = {0} := by
  rw [role_cntRecv]
  exact if_neg (by rcases hk with rfl | rfl | rfl <;> revert c <;> decide)
theorem duty_cntSend (c : Dev nD) (o : Fin 3) : dutiesOf c (role (.dma (cntSendS o))) = {0} := by rw [role_cntSend]; rfl
theorem duty_hopSend (c : Dev nD) (h : Fin 3) : dutiesOf c (role (.dma (hopSendS h))) = {0} := by rw [role_hopSend]; rfl
theorem duty_hopRecv (c : Dev nD) (h : Fin 3) : dutiesOf c (role (.dma (hopRecvS h))) = {0} := by rw [role_hopRecv]; rfl
theorem amount_cntRecv (j : Dev nD) : amountOf (role (.dma (cntRecvS j))) = Nc := by rw [role_cntRecv]; rfl
theorem amount_cntSend (o : Fin 3) : amountOf (role (.dma (cntSendS o))) = Nc := by rw [role_cntSend]; rfl
theorem amount_hopSend (h : Fin 3) : amountOf (role (.dma (hopSendS h))) = Nh := by rw [role_hopSend]; rfl
theorem amount_hopRecv (h : Fin 3) : amountOf (role (.dma (hopRecvS h))) = Nh := by rw [role_hopRecv]; rfl

/-- What is owed after the barrier, -/
abbrev owed6 (c : Dev nD) : List (Dev nD × Fin 14) :=
  [(rot 1 c, ixCntRecv c), (rot 2 c, ixCntRecv c), (rot 3 c, ixCntRecv c), (rot 1 c, ixHopRecv 0), (rot 1 c, ixHopRecv 1), (rot 1 c, ixHopRecv 2)]
/-- after the counts, -/
abbrev owed3 (c : Dev nD) : List (Dev nD × Fin 14) := [(rot 1 c, ixHopRecv 0), (rot 1 c, ixHopRecv 1), (rot 1 c, ixHopRecv 2)]
/-- after the first hop -/
abbrev owed2 (c : Dev nD) : List (Dev nD × Fin 14) := [(rot 1 c, ixHopRecv 1), (rot 1 c, ixHopRecv 2)]
/-- and after the second. -/
abbrev owed1 (c : Dev nD) : List (Dev nD × Fin 14) := [(rot 1 c, ixHopRecv 2)]

theorem lv_owed6 (c : Dev nD) : ∀ x ∈ owed6 c, 1 < lvOf (role (csem x.2)) := by revert c; decide
theorem lv_owed3 (c : Dev nD) : ∀ x ∈ owed3 c, 2 < lvOf (role (csem x.2)) := by revert c; decide
theorem lv_owed2 (c : Dev nD) : ∀ x ∈ owed2 c, 3 < lvOf (role (csem x.2)) := by revert c; decide
theorem lv_owed1 (c : Dev nD) : ∀ x ∈ owed1 c, 4 < lvOf (role (csem x.2)) := by revert c; decide
theorem lv_cntRecv (j : Dev nD) : lvOf (role (.dma (cntRecvS j))) = 2 := by rw [role_cntRecv]; rfl
theorem lv_cntSend (o : Fin 3) : lvOf (role (.dma (cntSendS o))) = 0 := by rw [role_cntSend]; rfl
theorem lv_hopSend (h : Fin 3) : lvOf (role (.dma (hopSendS h))) = 0 := by rw [role_hopSend]; rfl
theorem lv_hopRecv (h : Fin 3) : lvOf (role (.dma (hopRecvS h))) = 3 + h.val := by rw [role_hopRecv]; rfl

omit [FloatOps F] in
theorem each_row (c : Dev nD) (f : (cc0_scratch2 : Ref sig .tc).ty.Contents (Elt F)) :
    (((c : Thread nD τ).loc cc0_scratch2) ↦{fullShare} f : sProp 𝕄)
      = iprop(rowPts c (rot 1 c) f ∗ rowPts c (rot 2 c) f ∗ rowPts c (rot 3 c) f ∗ rowPts c c f) :=
  (rows_eq c f).trans (bigSep_univ_eq_bigSepL [rot 1 c, rot 2 c, rot 3 c, c] (by revert c; decide) (by revert c; decide) _)

omit [FloatOps F] in
theorem each_slot (c : Dev nD) (f : (cc0_scratch0 : Ref sig .tc).ty.Contents (Elt F)) :
    (((c : Thread nD τ).loc cc0_scratch0) ↦{fullShare} f : sProp 𝕄)
      = iprop(slotPts fullShare c 0 f ∗ slotPts fullShare c 1 f ∗ slotPts fullShare c 2 f ∗ slotPts fullShare c 3 f) :=
  (slots_eq c f).trans (bigSep_univ_eq_bigSepL [0, 1, 2, 3] (by decide) (by decide) _)

/-- The units a device may wait for from the start. -/
def creds (c : Dev nD) : sProp 𝕄 :=
  iprop(cred (tallyAt (kcell (c, 0)) () 3)
    ∗ (cred (tallyAt (kcell (c, ixCntRecv (rot 1 c))) () Nc) ∗ cred (tallyAt (kcell (c, ixCntRecv (rot 2 c))) () Nc) ∗ cred (tallyAt (kcell (c, ixCntRecv (rot 3 c))) () Nc))
    ∗ cred (tallyAt (kcell (c, ixHopRecv 0)) () Nh) ∗ cred (tallyAt (kcell (c, ixHopRecv 1)) () Nh) ∗ cred (tallyAt (kcell (c, ixHopRecv 2)) () Nh))

/-- What device `c` starts from, but for its buffers. -/
def start (c : Dev nD) : sProp 𝕄 := iprop((∃ K, ghost m ρ K c) ∗ creds c ∗ levAts L lv)

/-- Its buffers before the body, at any contents, -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- and after it: every slot and every row filled. -/
def scrDone (c : Dev nD) : sProp 𝕄 :=
  iprop((((c : Thread nD τ).loc cc0_scratch0) ↦{fullShare} commAll m ρ c) ∗ (((c : Thread nD τ).loc cc0_scratch1) ↦{fullShare} mine m ρ c)
    ∗ (((c : Thread nD τ).loc cc0_scratch2) ↦{fullShare} cntAll m ρ c))

def Φ₀ (c : Dev nD) : sProp 𝕄 := iprop(start m ρ c ∗ scr c)
def Φ₁ (c : Dev nD) : sProp 𝕄 := iprop(scrDone m ρ c ∗ bigSep Finset.univ fun k : Fin 14 => semVal (kcell (c, k)) 0)

/-- The launch's data: what each window holds after the body, and the assertions before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => routestg m ρ c
    | ⟨2, _⟩ => wstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => owing (debts c)
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole-buffer accesses -/

abbrev outR : Rect S512x512 := Rect.unit (s := S512x512) ![0, 0] S512x512.size inb_S512x512_S512x512_0_0
abbrev mineR : Rect S1x16 := Rect.unit (s := S1x16) ![0, 0] S1x16.size inb_S1x16_S1x16_0_0
abbrev cntR : Rect S4x1x16 := Rect.unit (s := S4x1x16) ![0, 0, 0] S4x1x16.size inb_S4x1x16_S4x1x16_0_0_0
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem read_route (f : (cc0_stg1_0 : Ref sig .tc).ty.Contents (Elt F)) :
    (routeM : Memref sig .tc .vmem S512x1 .i32).view.readAt (Elt F) (Rect.unit (s := S512x1) ![0, 0] S512x1.size inb_S512x1_S512x1_0_0).toLoadRect f = f :=
  Memref.readAt_unit_zero (Elt F) cc0_stg1_0 hz2 _ f
omit [FloatOps F] in
theorem read_w (f : (cc0_stg2_0 : Ref sig .tc).ty.Contents (Elt F)) :
    (wM : Memref sig .tc .vmem S4x256x512 .f32).view.readAt (Elt F) (Rect.unit (s := S4x256x512) ![0, 0, 0] S4x256x512.size inb_S4x256x512_S4x256x512_0_0_0).toLoadRect f = f :=
  Memref.readAt_unit_zero (Elt F) cc0_stg2_0 hz3 _ f
omit [FloatOps F] in
theorem read_cnt (f : (cc0_scratch2 : Ref sig .tc).ty.Contents (Elt F)) :
    (cntM : Memref sig .tc .vmem S4x1x16 .f32).view.readAt (Elt F) (Rect.unit (s := S4x1x16) ![0, 0, 0] S4x1x16.size inb_S4x1x16_S4x1x16_0_0_0).toLoadRect f = f :=
  Memref.readAt_unit_zero (Elt F) cc0_scratch2 hz3 _ f
omit [FloatOps F] in
theorem write_out (f w : (cc0_stg3_0 : Ref sig .tc).ty.Contents (Elt F)) :
    ((outM : Memref sig .tc .vmem S512x512 .f32).access outR : View sig .tc _ _ _).write (Elt F) f w Finset.univ = w :=
  Memref.write_access_unit_zero_univ (Elt F) cc0_stg3_0 hz2 _ f w
omit [FloatOps F] in
theorem write_mine (f w : (cc0_scratch1 : Ref sig .tc).ty.Contents (Elt F)) :
    ((mineM : Memref sig .tc .vmem S1x16 .f32).access mineR : View sig .tc _ _ _).write (Elt F) f w Finset.univ = w :=
  Memref.write_access_unit_zero_univ (Elt F) cc0_scratch1 hz2 _ f w
omit [FloatOps F] in
theorem write_cnt (f w : (cc0_scratch2 : Ref sig .tc).ty.Contents (Elt F)) :
    ((cntM : Memref sig .tc .vmem S4x1x16 .f32).access cntR : View sig .tc _ _ _).write (Elt F) f w Finset.univ = w :=
  Memref.write_access_unit_zero_univ (Elt F) cc0_scratch2 hz3 _ f w

omit [FloatOps F] in
theorem slot_access (h : Fin 4) : (commM.access (slotR h)).set ⊆ (slotM h).view.set := by
  rw [slot_access_set, slot_set]

/-- Slot 0 holds the device's own matrices once it has stored them. -/
theorem slot_own (c : Dev nD) (fd : (cc0_scratch0 : Ref sig .tc).ty.Contents (Elt F)) :
    ∀ i ∈ (slotM 0).view.set,
      (commM.access (slotR 0)).write (Elt F) fd (k0_pay7 (wstg m ρ c)) Finset.univ i = commAll m ρ c i := by
  intro i hi
  rw [slot_set, ← slot_access_set] at hi
  obtain ⟨x, -, rfl⟩ := Finset.mem_map.mp hi
  rw [View.write_emb_of_mem _ _ (Finset.mem_univ x)]
  have ht := congrFun (read_slot m ρ c 0) x
  rw [src_zero] at ht
  exact ht.symm

/-! ## Closing -/

variable (K : Dev nD × Fin 14 → ℕ)

/-- How many rounds of its semaphore `k` device `c` ends after: one, but for its own counts'. -/
def rounds (c : Dev nD) (k : Fin 14) : ℕ := if k = ixCntRecv c then 0 else 1

theorem close_one (c : Dev nD) (k : Fin 14) :
    iprop(records m ρ K ∗ atPos ER (kcell (c, k)) (rounds c k) ∅ 0) ⊢ (|={Set.univ}=> semVal (kcell (c, k)) 0 : sProp 𝕄) := by
  unfold rounds
  split
  · next h => subst h; exact close_own m ρ K c
  · exact close_done m ρ K c k

/-- The semaphores of a device whose exchange is over. -/
theorem close_all (c : Dev nD) :
    iprop(records m ρ K ∗ bigSep Finset.univ fun k : Fin 14 => atPos ER (kcell (c, k)) (rounds c k) ∅ 0)
      ⊢ (|={Set.univ}=> bigSep Finset.univ fun k : Fin 14 => semVal (kcell (c, k)) 0 : sProp 𝕄) :=
  (bigSep_with_persistent fun k _ => close_one m ρ K c k).trans (bigSep_fupd _ _)

omit [FloatOps F] in
theorem each_end (c : Dev nD) : (bigSep Finset.univ fun k : Fin 14 => (atPos ER (kcell (c, k)) (rounds c k) ∅ 0 : sProp 𝕄))
    = iprop(atPos ER (kcell (c, 0)) 1 ∅ 0
        ∗ atPos ER (kcell (c, ixCntSend 0)) 1 ∅ 0 ∗ atPos ER (kcell (c, ixCntSend 1)) 1 ∅ 0 ∗ atPos ER (kcell (c, ixCntSend 2)) 1 ∅ 0
        ∗ atPos ER (kcell (c, ixCntRecv (rot 1 c))) 1 ∅ 0 ∗ atPos ER (kcell (c, ixCntRecv (rot 2 c))) 1 ∅ 0 ∗ atPos ER (kcell (c, ixCntRecv (rot 3 c))) 1 ∅ 0
        ∗ atPos ER (kcell (c, ixCntRecv c)) 0 ∅ 0
        ∗ atPos ER (kcell (c, ixHopSend 0)) 1 ∅ 0 ∗ atPos ER (kcell (c, ixHopSend 1)) 1 ∅ 0 ∗ atPos ER (kcell (c, ixHopSend 2)) 1 ∅ 0
        ∗ atPos ER (kcell (c, ixHopRecv 0)) 1 ∅ 0 ∗ atPos ER (kcell (c, ixHopRecv 1)) 1 ∅ 0 ∗ atPos ER (kcell (c, ixHopRecv 2)) 1 ∅ 0) := by
  rw [each_sem c]
  have h0 : rounds c 0 = 1 := by revert c; decide
  have h1 : ∀ o, rounds c (ixCntSend o) = 1 := by revert c; decide
  have h2 : rounds c (ixCntRecv (rot 1 c)) = 1 ∧ rounds c (ixCntRecv (rot 2 c)) = 1 ∧ rounds c (ixCntRecv (rot 3 c)) = 1 ∧ rounds c (ixCntRecv c) = 0 := by revert c; decide
  have h3 : ∀ h, rounds c (ixHopSend h) = 1 ∧ rounds c (ixHopRecv h) = 1 := by revert c; decide
  rw [h0, h1, h1, h1, h2.1, h2.2.1, h2.2.2.1, h2.2.2.2, (h3 0).1, (h3 1).1, (h3 2).1, (h3 0).2, (h3 1).2, (h3 2).2]

end Cert.KernelIdeal.Exchange
-- ==== Proof.KernelIdeal.Exec.lean ====
/-
# Following the body

The execution of the dispatch kernel's body, one rule per effect in program order.
-/
module

public import proofs.«01_k».proof.Proof.KernelIdeal.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a barrier raise hands over -/

omit [FloatOps F] in
theorem barPay_row (p c : Dev nD) (h : p ≠ rot 1 c) : barPay p c = (iprop((∃ f, rowPts p c f) ∗ emp) : sProp 𝕄) := by
  unfold barPay; rw [if_neg h]
omit [FloatOps F] in
theorem barPay_all (p c : Dev nD) (h : p = rot 1 c) : barPay p c
    = (iprop((∃ f, rowPts p c f) ∗ (∃ f, slotPts fullShare p 1 f) ∗ (∃ f, slotPts fullShare p 2 f) ∗ (∃ f, slotPts fullShare p 3 f)) : sProp 𝕄) := by
  unfold barPay; rw [if_pos h]

/-! ## Reading and filling a slot -/

/-- A slot is read at any share of it. -/
theorem load_slot (c : Dev nD) (h : Fin 4) (q : PosShare TreeShare) {hl : (commM : Memref sig .tc .vmem S4x1024x512 .bf16).view.LoadsAt (slotR h).toLoadRect}
    {α : Type} {Q : α → sProp 𝕄} {k : Vec F S1x1024x512 .bf16 → Prog (TpuEff nD τ sig (Elt F) Λ₀ .tc) α} :
    slotPts q c h (commAll m ρ c)
      ⊢ iprop((slotPts q c h (commAll m ρ c) -∗ runs c (k (slotVal m ρ h c)) Q) -∗ runs c (.op (.load commM (slotR h).toLoadRect hl) k) Q) := by
  unfold slotPts
  iintro Hs Hk
  iapply (wp_load_rect 𝒱₀ (c : Thread nD τ) none Set.univ (m := commM) (r := slotR h) (slot_access h)) $$ Hs
  iintro Hs
  rw [read_slot m ρ c h]
  iapply Hk; iexact Hs

/-- Slot 0 is filled with the device's own matrices. -/
theorem fill_slot (c : Dev nD) (f0 : (cc0_scratch0 : Ref sig .tc).ty.Contents (Elt F))
    {hl : (commM : Memref sig .tc .vmem S4x1024x512 .bf16).view.LoadsAt (slotR 0).toLoadRect}
    {hs} {hs'}
    {α : Type} {Q : α → sProp 𝕄} {k : PUnit → Prog (TpuEff nD τ sig (Elt F) Λ₀ .tc) α} :
    slotPts fullShare c 0 f0
      ⊢ iprop((slotPts fullShare c 0 (commAll m ρ c) -∗ runs c (k ⟨⟩) Q)
          -∗ runs c (.op (.load commM (slotR 0).toLoadRect hl) fun _ => .op (.store commM (slotR 0) (k0_pay7 (wstg m ρ c)) Finset.univ hs hs') k) Q) := by
  unfold slotPts
  iintro Hs Hk
  iapply (wp_load_rect 𝒱₀ (c : Thread nD τ) none Set.univ (m := commM) (r := slotR 0) (slot_access 0)) $$ Hs
  iintro Hs
  iapply (wp_store 𝒱₀ (c : Thread nD τ) none Set.univ (m := commM) (r := slotR 0) (Mk := Finset.univ) (slot_access 0)) $$ Hs
  iintro Hs
  iapply Hk
  iapply (Entails.of_eq (pointsTo_congr (slot_own m ρ c f0))); iexact Hs

/-! ## What a transfer's end hands over -/

theorem end_cntSend (c : Dev nD) (o : Fin 3) : payOf m ρ c 0 (role (.dma (cntSendS o))) ⊢ minePts (third o) c (mine m ρ c) := by
  rw [role_cntSend]; exact BI.Entails.refl _
theorem end_cntRecv (c j : Dev nD) : payOf m ρ c 0 (role (.dma (cntRecvS j))) ⊢ rowPts c j (cntAll m ρ c) := by
  rw [role_cntRecv]; exact BI.Entails.refl _
theorem end_hopSend (c : Dev nD) (h : Fin 3) (h' : Fin 4) (e : h.castSucc = h') :
    payOf m ρ c 0 (role (.dma (hopSendS h))) ⊢ slotPts fullShare.left c h' (commAll m ρ c) := by
  subst e; rw [role_hopSend]; exact BI.Entails.refl _
theorem end_hopRecv (c : Dev nD) (h : Fin 3) (h' : Fin 4) (e : h.succ = h') :
    payOf m ρ c 0 (role (.dma (hopRecvS h))) ⊢ slotPts fullShare c h' (commAll m ρ c) := by
  subst e; rw [role_hopRecv]; exact BI.Entails.refl _

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × Fin 14 → ℕ)

def bodyPre (c : Dev nD) : sProp 𝕄 :=
  iprop((ghost m ρ K c ∗ creds c ∗ levAts L lv ∗ scr c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (routestg m ρ c) ∗ stg c cc0_stg2_0 (wstg m ρ c) ∗ stg c cc0_stg3_0 (outAt m ρ c))

set_option maxHeartbeats 800000 in
set_option maxRecDepth 65536 in
/-- The body, from `bodyPre` to `bodyPost`. -/
theorem sound_body (c : Dev nD) (Kt : PUnit → sProp 𝕄) :
    iprop(bodyPre m ρ K c ∗ (bodyPost m ρ c -∗ Kt ⟨⟩))
      ⊢ runs c (cc0_body xM (Memref.isWhole_whole _) routeM (Memref.isWhole_whole _) wM (Memref.isWhole_whole _) outM (Memref.isWhole_whole _)
            commM (Memref.isWhole_whole _) mineM (Memref.isWhole_whole _) cntM (Memref.isWhole_whole _) cc0_scratch3 cc0_scratch4 cc0_scratch5 cc0_scratch6) Kt := by
  unfold runs
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, wait_cnt_1 c, wait_cnt_2 c, wait_cnt_3 c]
  unfold bodyPre ghost creds scr
  rw [each_sem c, each_tok c]
  iintro ⟨⟨⟨⟨#HR, ⟨HaB, HaS0, HaS1, HaS2, HaR1, HaR2, HaR3, HaR0, HaM0, HaM1, HaM2, HaN0, HaN1, HaN2⟩,
      HtB1, HtB2, HtB3, HtR1, HtR2, HtR3, HtN0, HtN1, HtN2, HtS0, HtS1, HtS2, HtM0, HtM1, HtM2⟩,
      ⟨HcB, ⟨HcR1, HcR2, HcR3⟩, HcN0, HcN1, HcN2⟩, #Hlev, ⟨⟨%f0, Hcomm⟩, ⟨%f1, Hmine⟩, ⟨%f2, Hcnt⟩⟩⟩,
    Ho, ⟨%d0, %g0, %hg0, Hx⟩, ⟨%d1, %g1, %hg1, Hroute⟩, ⟨%d2, %g2, %hg2, Hw⟩, ⟨%d3, %g3, %hg3, Hout⟩⟩, Hk⟩
  have hx : g0 = xstg m ρ c := by rw [hg0]; unfold Dat.before; rw [if_pos (fetch0_0 t0_0)]; rfl
  have hroute : g1 = routestg m ρ c := by rw [hg1]; unfold Dat.before; rw [if_pos (fetch0_1 t0_0)]; rfl
  have hw : g2 = wstg m ρ c := by rw [hg2]; unfold Dat.before; rw [if_pos (fetch0_2 t0_0)]; rfl
  subst hx; subst hroute; subst hw
  unfold Dat.owesAt Pipeline.owesWithin
  icases Ho with ⟨%W, %hW, HO⟩
  rw [show (dats m ρ 0 c).owed t0_0.castSucc = owing (debts c) from rfl]
  ihave HD := (show (owes (c : Thread nD τ) (owing (debts c)) W : sProp 𝕄) ⊢ due c (debts c) from by
    unfold due; iintro H; iexists W; iexact H) $$ HO
  unfold debts
  -- the counts are zeroed, and their rows handed out with the slots
  iapply (wp_load 𝒱₀ (c : Thread nD τ) none Set.univ (m := cntM) (Finset.subset_univ _)) $$ Hcnt; iintro Hcnt
  iapply (wp_store 𝒱₀ (c : Thread nD τ) none Set.univ (m := cntM) (r := cntR) (Mk := Finset.univ) (Finset.subset_univ _)) $$ Hcnt; iintro Hcnt
  rw [write_cnt]
  ihave Hrows := (Entails.of_eq (each_row c _)) $$ Hcnt
  icases Hrows with ⟨Hr1, Hr2, Hr3, Hr0⟩
  ihave Hslots := (Entails.of_eq (each_slot c f0)) $$ Hcomm
  icases Hslots with ⟨Hs0, Hs1, Hs2, Hs3⟩
  iapply (step_signal m ρ K c (rot 1 c) (rot 1 c) rfl (raises c).1 _ (by decide)) $$ [HD HtB1 Hr1]
  · isplitr; · iexact HR
    isplitl [HD]; · iexact HD
    isplitl [HtB1]; · iexact HtB1
    rw [barPay_row c (rot 1 c) (ring_ne c).1]
    isplitl [Hr1]; · iexists _; iexact Hr1
    iempintro
  iintro HD
  iapply (step_signal m ρ K c (rot 2 c) (rot 2 c) rfl (raises c).2.1 _ (by decide)) $$ [HD HtB2 Hr2]
  · isplitr; · iexact HR
    isplitl [HD]; · iexact HD
    isplitl [HtB2]; · iexact HtB2
    rw [barPay_row c (rot 2 c) (ring_ne c).2.1]
    isplitl [Hr2]; · iexists _; iexact Hr2
    iempintro
  iintro HD
  iapply (step_signal m ρ K c (rot 3 c) (rot 3 c) rfl (raises c).2.2 _ (by decide)) $$ [HD HtB3 Hr3 Hs1 Hs2 Hs3]
  · isplitr; · iexact HR
    isplitl [HD]; · iexact HD
    isplitl [HtB3]; · iexact HtB3
    rw [barPay_all c (rot 3 c) (rot_1_3 c).symm]
    isplitl [Hr3]; · iexists _; iexact Hr3
    isplitl [Hs1]; · iexists f0; iexact Hs1
    isplitl [Hs2]; · iexists f0; iexact Hs2
    iexists f0; iexact Hs3
  iintro HD
  -- the barrier: row `c` of the three others, and the next device's slots
  iapply (step_barrier m ρ K c (owed6 c) (lv_owed6 c) (by decide)) $$ [HD HcB HaB]
  · isplitr; · iexact HR
    isplitr; · iexact Hlev
    isplitl [HcB]; · iexact HcB
    isplitl [HD]; · iexact HD
    iexact HaB
  rw [barPay_all (rot 1 c) c rfl, barPay_row (rot 2 c) c (ring_ne c).2.2.1, barPay_row (rot 3 c) c (ring_ne c).2.2.2]
  iintro ⟨HD, HaB, ⟨⟨%e1, Hp1⟩, ⟨%u1, Hq1⟩, ⟨%u2, Hq2⟩, ⟨%u3, Hq3⟩⟩, ⟨⟨%e2, Hp2⟩, -⟩, ⟨%e3, Hp3⟩, -⟩
  -- its own counts, to the three others
  iapply (wp_load 𝒱₀ (c : Thread nD τ) none Set.univ (m := routeM) (Finset.subset_univ _)) $$ Hroute; iintro Hroute
  rw [read_route]
  iapply (wp_load 𝒱₀ (c : Thread nD τ) none Set.univ (m := mineM) (Finset.subset_univ _)) $$ Hmine; iintro Hmine
  iapply (wp_store 𝒱₀ (c : Thread nD τ) none Set.univ (m := mineM) (r := mineR) (Mk := Finset.univ) (Finset.subset_univ _)) $$ Hmine; iintro Hmine
  rw [write_mine, show k0_pay6 (iota .tc S512x16 32 [1] iota_S512x16_d1_w32) (k0_pay4 (routestg m ρ c)) = mine m ρ c from rfl]
  ihave Hm := (Entails.of_eq (mine_eq c (mine m ρ c)).symm) $$ Hmine
  ihave Hm' := (mine_thirds c (mine m ρ c)).1 $$ Hm
  icases Hm' with ⟨Hm0, Hm1, Hm2⟩
  iapply (step_send_counts m ρ K c _ (rot 1 c) (dev4_eq c) (rot_ne c).1.symm 0 ((rot 2 c, ixCntRecv c) :: (rot 3 c, ixCntRecv c) :: owed3 c) rfl e1) $$ [Hm0 Hp1 HD HtS0 HtR1]
  · isplitr; · iexact HR
    isplitl [Hm0]; · iexact Hm0
    isplitl [Hp1]; · iexact Hp1
    isplitl [HD]; · iexact HD
    isplitl [HtS0]; · iexact HtS0
    iexact HtR1
  iintro ⟨HcS0, HD⟩
  iapply (step_send_counts m ρ K c _ (rot 2 c) (dev5_eq c) (rot_ne c).2.1.symm 1 ((rot 3 c, ixCntRecv c) :: owed3 c) rfl e2) $$ [Hm1 Hp2 HD HtS1 HtR2]
  · isplitr; · iexact HR
    isplitl [Hm1]; · iexact Hm1
    isplitl [Hp2]; · iexact Hp2
    isplitl [HD]; · iexact HD
    isplitl [HtS1]; · iexact HtS1
    iexact HtR2
  iintro ⟨HcS1, HD⟩
  iapply (step_send_counts m ρ K c _ (rot 3 c) (dev6_eq c) (rot_ne c).2.2.symm 2 (owed3 c) rfl e3) $$ [Hm2 Hp3 HD HtS2 HtR3]
  · isplitr; · iexact HR
    isplitl [Hm2]; · iexact Hm2
    isplitl [Hp3]; · iexact Hp3
    isplitl [HD]; · iexact HD
    isplitl [HtS2]; · iexact HtS2
    iexact HtR3
  iintro ⟨HcS2, HD⟩
  -- its own matrices, into slot 0
  iapply (wp_load 𝒱₀ (c : Thread nD τ) none Set.univ (m := wM) (Finset.subset_univ _)) $$ Hw; iintro Hw
  rw [read_w]
  iapply (fill_slot m ρ c f0) $$ Hs0; iintro Hs0
  -- the others' counts arrive
  iapply (step_wait m ρ K c (ixCntRecv (rot 1 c)) (cntRecvS (rot 1 c)) (csem_cntRecv _) (duty_cntRecv c 1 (by decide)) (owed3 c) (by rw [lv_cntRecv]; exact lv_owed3 c) Nc (amount_cntRecv _) ?_) $$ [HD HcR1 HaR1]
  · rfl
  · isplitr; · iexact HR
    isplitr; · iexact Hlev
    isplitl [HcR1]; · iexact HcR1
    isplitl [HD]; · iexact HD
    iexact HaR1
  iintro ⟨HD, HaR1, Hpay⟩
  ihave Hr1 := (end_cntRecv m ρ c (rot 1 c)) $$ Hpay
  iapply (step_wait m ρ K c (ixCntRecv (rot 2 c)) (cntRecvS (rot 2 c)) (csem_cntRecv _) (duty_cntRecv c 2 (by decide)) (owed3 c) (by rw [lv_cntRecv]; exact lv_owed3 c) Nc (amount_cntRecv _) ?_) $$ [HD HcR2 HaR2]
  · rfl
  · isplitr; · iexact HR
    isplitr; · iexact Hlev
    isplitl [HcR2]; · iexact HcR2
    isplitl [HD]; · iexact HD
    iexact HaR2
  iintro ⟨HD, HaR2, Hpay⟩
  ihave Hr2 := (end_cntRecv m ρ c (rot 2 c)) $$ Hpay
  iapply (step_wait m ρ K c (ixCntRecv (rot 3 c)) (cntRecvS (rot 3 c)) (csem_cntRecv _) (duty_cntRecv c 3 (by decide)) (owed3 c) (by rw [lv_cntRecv]; exact lv_owed3 c) Nc (amount_cntRecv _) ?_) $$ [HD HcR3 HaR3]
  · rfl
  · isplitr; · iexact HR
    isplitr; · iexact Hlev
    isplitl [HcR3]; · iexact HcR3
    isplitl [HD]; · iexact HD
    iexact HaR3
  iintro ⟨HD, HaR3, Hpay⟩
  ihave Hr3 := (end_cntRecv m ρ c (rot 3 c)) $$ Hpay
  -- its own transfers of counts are over
  iapply (step_wait m ρ K c (ixCntSend 0) (cntSendS 0) (csem_cntSend _) (duty_cntSend c 0) (owed3 c) (by rw [lv_cntSend]; exact fun y hy => (Nat.zero_lt_two).trans (lv_owed3 c y hy)) Nc (amount_cntSend _) ?_) $$ [HD HcS0 HaS0]
  · rfl
  · isplitr; · iexact HR
    isplitr; · iexact Hlev
    isplitl [HcS0]; · iexact HcS0
    isplitl [HD]; · iexact HD
    iexact HaS0
  iintro ⟨HD, HaS0, Hpay⟩
  ihave Hm0 := (end_cntSend m ρ c 0) $$ Hpay
  iapply (step_wait m ρ K c (ixCntSend 1) (cntSendS 1) (csem_cntSend _) (duty_cntSend c 1) (owed3 c) (by rw [lv_cntSend]; exact fun y hy => (Nat.zero_lt_two).trans (lv_owed3 c y hy)) Nc (amount_cntSend _) ?_) $$ [HD HcS1 HaS1]
  · rfl
  · isplitr; · iexact HR
    isplitr; · iexact Hlev
    isplitl [HcS1]; · iexact HcS1
    isplitl [HD]; · iexact HD
    iexact HaS1
  iintro ⟨HD, HaS1, Hpay⟩
  ihave Hm1 := (end_cntSend m ρ c 1) $$ Hpay
  iapply (step_wait m ρ K c (ixCntSend 2) (cntSendS 2) (csem_cntSend _) (duty_cntSend c 2) (owed3 c) (by rw [lv_cntSend]; exact fun y hy => (Nat.zero_lt_two).trans (lv_owed3 c y hy)) Nc (amount_cntSend _) ?_) $$ [HD HcS2 HaS2]
  · rfl
  · isplitr; · iexact HR
    isplitr; · iexact Hlev
    isplitl [HcS2]; · iexact HcS2
    isplitl [HD]; · iexact HD
    iexact HaS2
  iintro ⟨HD, HaS2, Hpay⟩
  ihave Hm2 := (end_cntSend m ρ c 2) $$ Hpay
  ihave Hr0 := (show rowPts c c (k0_pay2 (F := F)) ⊢ rowPts c c (cntAll m ρ c) from Entails.of_eq (by unfold rowPts; exact pointsTo_congr (row_own m ρ c))) $$ Hr0
  ihave Hcnt := (Entails.of_eq (each_row c (cntAll m ρ c)).symm) $$ [Hr1 Hr2 Hr3 Hr0]
  · isplitl [Hr1]; · iexact Hr1
    isplitl [Hr2]; · iexact Hr2
    isplitl [Hr3]; · iexact Hr3
    iexact Hr0
  ihave Hm := (mine_thirds c (mine m ρ c)).2 $$ [Hm0 Hm1 Hm2]
  · isplitl [Hm0]; · iexact Hm0
    isplitl [Hm1]; · iexact Hm1
    iexact Hm2
  ihave Hmine := (Entails.of_eq (mine_eq c (mine m ρ c))) $$ Hm
  iapply (wp_load 𝒱₀ (c : Thread nD τ) none Set.univ (m := cntM) (Finset.subset_univ _)) $$ Hcnt; iintro Hcnt
  rw [read_cnt]
  iapply (wp_load 𝒱₀ (c : Thread nD τ) none Set.univ (m := xM) (Finset.subset_univ _)) $$ Hx; iintro Hx
  rw [read_x]
  -- slot 0 travels on, and is read meanwhile
  ihave Hh := (slot_halves c 0 (commAll m ρ c)).1 $$ Hs0
  icases Hh with ⟨Hl0, Hs0⟩
  iapply (step_send_hop m ρ K c _ (dev7_eq c) 0 (owed2 c) rfl rfl rfl rfl u1) $$ [Hl0 Hq1 HD HtM0 HtN0]
  · isplitr; · iexact HR
    isplitl [Hl0]; · iexact Hl0
    isplitl [Hq1]; · iexact Hq1
    isplitl [HD]; · iexact HD
    isplitl [HtM0]; · iexact HtM0
    iexact HtN0
  iintro ⟨HcM0, HD⟩
  iapply (load_slot m ρ c 0 _) $$ Hs0; iintro Hs0
  iapply (step_wait m ρ K c (ixHopSend 0) (hopSendS 0) (csem_hopSend _) (duty_hopSend c 0) (owed2 c) (by rw [lv_hopSend]; exact fun y hy => (Nat.zero_lt_succ _).trans (lv_owed2 c y hy)) Nh (amount_hopSend _) ?_) $$ [HD HcM0 HaM0]
  · rfl
  · isplitr; · iexact HR
    isplitr; · iexact Hlev
    isplitl [HcM0]; · iexact HcM0
    isplitl [HD]; · iexact HD
    iexact HaM0
  iintro ⟨HD, HaM0, Hpay⟩
  ihave Hl0 := (end_hopSend m ρ c 0 0 rfl) $$ Hpay
  iapply (step_wait m ρ K c (ixHopRecv 0) (hopRecvS 0) (csem_hopRecv _) (duty_hopRecv c 0) (owed2 c) (by rw [lv_hopRecv]; exact lv_owed2 c) Nh (amount_hopRecv _) ?_) $$ [HD HcN0 HaN0]
  · rfl
  · isplitr; · iexact HR
    isplitr; · iexact Hlev
    isplitl [HcN0]; · iexact HcN0
    isplitl [HD]; · iexact HD
    iexact HaN0
  iintro ⟨HD, HaN0, Hpay⟩
  ihave Hs1 := (end_hopRecv m ρ c 0 1 rfl) $$ Hpay
  ihave Hs0 := (slot_halves c 0 (commAll m ρ c)).2 $$ [Hl0 Hs0]
  · isplitl [Hl0]; · iexact Hl0
    iexact Hs0
  -- slot 1 travels on, and is read meanwhile
  ihave Hh := (slot_halves c 1 (commAll m ρ c)).1 $$ Hs1
  icases Hh with ⟨Hl1, Hs1⟩
  iapply (step_send_hop m ρ K c _ (dev8_eq c) 1 (owed1 c) rfl rfl rfl rfl u2) $$ [Hl1 Hq2 HD HtM1 HtN1]
  · isplitr; · iexact HR
    isplitl [Hl1]; · iexact Hl1
    isplitl [Hq2]; · iexact Hq2
    isplitl [HD]; · iexact HD
    isplitl [HtM1]; · iexact HtM1
    iexact HtN1
  iintro ⟨HcM1, HD⟩
  iapply (load_slot m ρ c 1 _) $$ Hs1; iintro Hs1
  iapply (step_wait m ρ K c (ixHopSend 1) (hopSendS 1) (csem_hopSend _) (duty_hopSend c 1) (owed1 c) (by rw [lv_hopSend]; exact fun y hy => (Nat.zero_lt_succ _).trans (lv_owed1 c y hy)) Nh (amount_hopSend _) ?_) $$ [HD HcM1 HaM1]
  · rfl
  · isplitr; · iexact HR
    isplitr; · iexact Hlev
    isplitl [HcM1]; · iexact HcM1
    isplitl [HD]; · iexact HD
    iexact HaM1
  iintro ⟨HD, HaM1, Hpay⟩
  ihave Hl1 := (end_hopSend m ρ c 1 1 rfl) $$ Hpay
  iapply (step_wait m ρ K c (ixHopRecv 1) (hopRecvS 1) (csem_hopRecv _) (duty_hopRecv c 1) (owed1 c) (by rw [lv_hopRecv]; exact lv_owed1 c) Nh (amount_hopRecv _) ?_) $$ [HD HcN1 HaN1]
  · rfl
  · isplitr; · iexact HR
    isplitr; · iexact Hlev
    isplitl [HcN1]; · iexact HcN1
    isplitl [HD]; · iexact HD
    iexact HaN1
  iintro ⟨HD, HaN1, Hpay⟩
  ihave Hs2 := (end_hopRecv m ρ c 1 2 rfl) $$ Hpay
  ihave Hs1 := (slot_halves c 1 (commAll m ρ c)).2 $$ [Hl1 Hs1]
  · isplitl [Hl1]; · iexact Hl1
    iexact Hs1
  -- slot 2 travels on, and is read meanwhile
  ihave Hh := (slot_halves c 2 (commAll m ρ c)).1 $$ Hs2
  icases Hh with ⟨Hl2, Hs2⟩
  iapply (step_send_hop m ρ K c _ (dev9_eq c) 2 [] rfl rfl rfl rfl u3) $$ [Hl2 Hq3 HD HtM2 HtN2]
  · isplitr; · iexact HR
    isplitl [Hl2]; · iexact Hl2
    isplitl [Hq3]; · iexact Hq3
    isplitl [HD]; · iexact HD
    isplitl [HtM2]; · iexact HtM2
    iexact HtN2
  iintro ⟨HcM2, HD⟩
  iapply (load_slot m ρ c 2 _) $$ Hs2; iintro Hs2
  iapply (step_wait m ρ K c (ixHopSend 2) (hopSendS 2) (csem_hopSend _) (duty_hopSend c 2) [] (by simp) Nh (amount_hopSend _) ?_) $$ [HD HcM2 HaM2]
  · rfl
  · isplitr; · iexact HR
    isplitr; · iexact Hlev
    isplitl [HcM2]; · iexact HcM2
    isplitl [HD]; · iexact HD
    iexact HaM2
  iintro ⟨HD, HaM2, Hpay⟩
  ihave Hl2 := (end_hopSend m ρ c 2 2 rfl) $$ Hpay
  iapply (step_wait m ρ K c (ixHopRecv 2) (hopRecvS 2) (csem_hopRecv _) (duty_hopRecv c 2) [] (by simp) Nh (amount_hopRecv _) ?_) $$ [HD HcN2 HaN2]
  · rfl
  · isplitr; · iexact HR
    isplitr; · iexact Hlev
    isplitl [HcN2]; · iexact HcN2
    isplitl [HD]; · iexact HD
    iexact HaN2
  iintro ⟨HD, HaN2, Hpay⟩
  ihave Hs3 := (end_hopRecv m ρ c 2 3 rfl) $$ Hpay
  ihave Hs2 := (slot_halves c 2 (commAll m ρ c)).2 $$ [Hl2 Hs2]
  · isplitl [Hl2]; · iexact Hl2
    iexact Hs2
  iapply (load_slot m ρ c 3 _) $$ Hs3; iintro Hs3
  iapply (wp_load 𝒱₀ (c : Thread nD τ) none Set.univ (m := outM) (Finset.subset_univ _)) $$ Hout; iintro Hout
  iapply (wp_store 𝒱₀ (c : Thread nD τ) none Set.univ (m := outM) (r := outR) (Mk := Finset.univ) (Finset.subset_univ _)) $$ Hout; iintro Hout
  rw [write_out]
  -- its semaphores are its own again
  imod (close_all m ρ K c) $$ [HaB HaS0 HaS1 HaS2 HaR1 HaR2 HaR3 HaR0 HaM0 HaM1 HaM2 HaN0 HaN1 HaN2] with Hz
  · isplitr; · iexact HR
    rw [each_end c]
    isplitl [HaB]; · iexact HaB
    isplitl [HaS0]; · iexact HaS0
    isplitl [HaS1]; · iexact HaS1
    isplitl [HaS2]; · iexact HaS2
    isplitl [HaR1]; · iexact HaR1
    isplitl [HaR2]; · iexact HaR2
    isplitl [HaR3]; · iexact HaR3
    isplitl [HaR0]; · iexact HaR0
    isplitl [HaM0]; · iexact HaM0
    isplitl [HaM1]; · iexact HaM1
    isplitl [HaM2]; · iexact HaM2
    isplitl [HaN0]; · iexact HaN0
    isplitl [HaN1]; · iexact HaN1
    iexact HaN2
  ihave Hcomm := (Entails.of_eq (each_slot c (commAll m ρ c)).symm) $$ [Hs0 Hs1 Hs2 Hs3]
  · isplitl [Hs0]; · iexact Hs0
    isplitl [Hs1]; · iexact Hs1
    isplitl [Hs2]; · iexact Hs2
    iexact Hs3
  rw [wp_ret]; imodintro
  iapply Hk
  unfold bodyPost Φ₁ scrDone Dat.owesAt Pipeline.owesWithin due
  rw [show (dats m ρ 0 c).owed t0_0.succ = 0 from rfl]
  isplitl [Hcomm Hmine Hcnt Hz]
  · isplitl [Hcomm Hmine Hcnt]
    · isplitl [Hcomm]; · iexact Hcomm
      isplitl [Hmine]; · iexact Hmine
      iexact Hcnt
    iexact Hz
  isplitl [HD]
  · icases HD with ⟨%W', HD⟩
    iexists W'
    isplitr; · ipureintro; exact fun _ _ => Or.inl trivial
    iexact HD
  isplitl [Hx]
  · iexists _; isplitr; · (ipureintro; rfl)
    iexact Hx
  isplitl [Hroute]
  · iexists _; isplitr; · (ipureintro; rfl)
    iexact Hroute
  isplitl [Hw]
  · iexists _; isplitr; · (ipureintro; rfl)
    iexact Hw
  iexists _; isplitr; swap; · iexact Hout
  ipureintro; rfl

end Cert.KernelIdeal.Exchange
-- ==== Proof.KernelIdeal.Run.lean ====
/-
# The dispatch kernel's run

The launch deals every device its positions, its payments and the units it may wait for; the body does the
rest. The result: every execution of @main ends with the arguments as they were, every counter at zero, and each
device's block of the result as `outAt` says.
-/
module

public import proofs.«01_k».proof.Proof.KernelIdeal.Exec
public import Idealize.ShloMosaic.Lib.Pipeline.Value
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body at the launch's one point -/

/-- What the pipeline hands the body. -/
def handed (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show handed m ρ c ⊢ runs c (cc0_body xM (Memref.isWhole_whole _) routeM (Memref.isWhole_whole _) wM (Memref.isWhole_whole _) outM (Memref.isWhole_whole _)
            commM (Memref.isWhole_whole _) mineM (Memref.isWhole_whole _) cntM (Memref.isWhole_whole _) cc0_scratch3 cc0_scratch4 cc0_scratch5 cc0_scratch6) (fun _ => bodyPost m ρ c)
  unfold handed Φ₀ start
  iintro ⟨⟨⟨⟨%K, Hg⟩, Hc, Hl⟩, Hscr⟩, Ho, H0, H1, H2, H3⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [H0]; · iexact H0
    isplitl [H1]; · iexact H1
    isplitl [H2] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

/-- The semaphores of the exchange, -/
def exCells : Finset (GSem nD τ sig) := Finset.univ.map ⟨kcell, kcell_injective⟩

/-- and the payments made on them: which semaphore, in which round, under which name. -/
abbrev payCell (x : Dev nD × Fin 15) : GSem nD τ sig × ℕ × Dev nD := (kcell (pay x.1 x.2).1, 0, (pay x.1 x.2).2)
theorem payCell_injective : Function.Injective payCell := by
  intro x y h
  have h1 : kcell (pay x.1 x.2).1 = kcell (pay y.1 y.2).1 := congrArg (fun z : GSem nD τ sig × ℕ × Dev nD => z.1) h
  have h2 : (pay x.1 x.2).2 = (pay y.1 y.2).2 := congrArg (fun z : GSem nD τ sig × ℕ × Dev nD => z.2.2) h
  exact pay_injective (Prod.ext (kcell_injective h1) h2)
def exToks : Finset (GSem nD τ sig × ℕ × Dev nD) := Finset.univ.map ⟨payCell, payCell_injective⟩

def u₀ : UU := (initOf (Pipeline.cells cfgs cellOf_inj) (Pipeline.launchToks cfgs cellOf_inj), initOf exCells exToks)

/-- A device's positions at the start. -/
def places (c : Dev nD) : sProp 𝕄 :=
  bigSep Finset.univ fun k : Fin 14 => iprop(atPos ER (kcell (c, k)) 0 ∅ 0 ∗ reached ER (kcell (c, k)) 0)

/-- What the launch's ghost state deals device `c`: its semaphores' rounds, its positions, its payments. -/
def G (c : Dev nD) : sProp 𝕄 :=
  iprop((bigSep Finset.univ fun k : Fin 14 => roundState ER (Rd m ρ) (kcell (c, k)) 0) ∗ places c ∗ bigSep Finset.univ fun p : Fin 15 => tok c p)

/-- What becomes of it once all semaphores are shared. -/
def G' (c : Dev nD) : sProp 𝕄 := iprop(∃ K, ghost m ρ K c)

omit [FloatOps F] in
theorem over_cells (Φ : GSem nD τ sig → sProp 𝕄) :
    bigSep exCells Φ = bigSep Finset.univ fun c : Dev nD => bigSep Finset.univ fun k : Fin 14 => Φ (kcell (c, k)) := by
  unfold exCells; rw [bigSep_map, bigSep_univ_prod]; rfl

omit [FloatOps F] in
theorem over_toks : bigSep exToks (fun x => (dutyTok ER x.1 x.2.1 x.2.2 : sProp 𝕄))
    = bigSep Finset.univ fun c : Dev nD => bigSep Finset.univ fun p : Fin 15 => tok c p := by
  unfold exToks; rw [bigSep_map, bigSep_univ_prod]; rfl

theorem fund_ex : BI.own (ER (initOf exCells exToks)) ⊢ (|==> bigSep Finset.univ (G m ρ) : sProp 𝕄) := by
  iintro HX
  imod (Rounds.fund ER (Rd m ρ) exCells exToks) $$ HX with ⟨Hst, Hr, Hat, Htok⟩
  imodintro
  ihave Hst' := (Entails.of_eq (over_cells fun g => roundState ER (Rd m ρ) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G places; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem each_k (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The semaphores of the launch are the fourteen. -/
theorem sems0_eq (c : Dev nD) :
    (bigSep Finset.univ fun k : Fin 14 => semVal (kcell (c, k)) 0 : sProp 𝕄)
      = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12] (by decide) (by decide), unscopedSems0_eq, each_k]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k)))) ∗ places c ∗ bigSep Finset.univ fun p : Fin 15 => tok c p) := by
  have alloc : iprop((bigSep Finset.univ fun k : Fin 14 => semVal (kcell (c, k)) 0) ∗ bigSep Finset.univ fun k : Fin 14 => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod alloc $$ [Hv Hst] with Hinv
  · isplitl [Hv] <;> iassumption
  imodintro
  isplitl [Hinv]; · iexact Hinv
  isplitl [Hat]; · iexact Hat
  iexact Htok

/-- A device's part beside what all know. -/
theorem ghost_intro (K : Dev nD × Fin 14 → ℕ) (c : Dev nD) :
    iprop(records m ρ K ∗ ((bigSep Finset.univ fun k : Fin 14 => atPos ER (kcell (c, k)) 0 ∅ 0) ∗ bigSep Finset.univ fun p : Fin 15 => tok c p)) ⊢ G' m ρ c := by
  unfold G' ghost
  iintro H; iexists K; iexact H

theorem regroup :
    (bigSep Finset.univ fun c : Dev nD => iprop((bigSep Finset.univ fun k => iprop(∃ κ : ℕ, cellInv ER (Rd m ρ) κ (kcell (c, k))))
          ∗ places c ∗ bigSep Finset.univ fun p : Fin 15 => tok c p) : sProp 𝕄)
      ⊢ bigSep Finset.univ (G' m ρ) := by
  unfold places
  rw [bigSep_sep', bigSep_sep', ← bigSep_univ_prod (fun x : Dev nD × Fin 14 => iprop(∃ κ : ℕ, cellInv ER (Rd m ρ) κ (kcell x))),
    bigSep_congr (s := Finset.univ) (fun (c : Dev nD) _ => bigSep_sep' Finset.univ (fun k : Fin 14 => (atPos ER (kcell (c, k)) 0 ∅ 0 : sProp 𝕄)) (fun k => reached ER (kcell (c, k)) 0)),
    bigSep_sep', ← bigSep_univ_prod (fun x : Dev nD × Fin 14 => (reached ER (kcell x) 0 : sProp 𝕄))]
  iintro ⟨HI, ⟨Hat, #HR⟩, Htok⟩
  ihave HK := (BI.bigSep_exists_pi Finset.univ (fun (x : Dev nD × Fin 14) (κ : ℕ) => (cellInv ER (Rd m ρ) κ (kcell x) : sProp 𝕄))) $$ HI
  icases HK with ⟨%K, #HI⟩
  iapply (bigSep_with_persistent (R := records m ρ K) fun c _ => ghost_intro m ρ K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The units the launch credits -/

/-- What a device owes from the start. -/
def O₀ (c : Dev nD) : CellTallies nD τ sig Unit := owing (debts c)

omit [FloatOps F] in
/-- A semaphore is credited with what all devices owe it. -/
theorem launch_credit (c : Dev nD) (k : Fin 14) (n : ℕ) (h : credits c k = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact (Finset.sum_congr rfl fun d _ => owing_apply (debts d) (c, k)).trans (Finset.sum_mul _ _ _).symm

theorem credits_bar (c : Dev nD) : credits c 0 = 3 := by
  have h : (∑ d : Dev nD, (debts d).count (c, (0 : Fin 14))) = 3 := by revert c; decide
  unfold credits; rw [h]; show 3 * amountOf (role (csem 0)) = 3; rfl
theorem owed_cnt (c j : Dev nD) (h : j ≠ c) : (∑ d : Dev nD, (debts d).count (c, ixCntRecv j)) = 1 := by revert c j; decide
theorem owed_hop (c : Dev nD) (h : Fin 3) : (∑ d : Dev nD, (debts d).count (c, ixHopRecv h)) = 1 := by revert c h; decide
theorem amt_cnt (j : Dev nD) : amt (ixCntRecv j) = Nc := by
  unfold amt; rw [csem_cntRecv, role_cntRecv]; rfl
theorem amt_hop (h : Fin 3) : amt (ixHopRecv h) = Nh := by
  unfold amt; rw [csem_hopRecv, role_hopRecv]; rfl
theorem credits_cnt (c j : Dev nD) (h : j ≠ c) : credits c (ixCntRecv j) = Nc := by
  unfold credits; rw [owed_cnt c j h, Nat.one_mul, amt_cnt]
theorem credits_hop (c : Dev nD) (h : Fin 3) : credits c (ixHopRecv h) = Nh := by
  unfold credits; rw [owed_hop, Nat.one_mul, amt_hop]

omit [FloatOps F] in
theorem creds_intro (c : Dev nD) : (Pipeline.launchCred O₀ c : sProp 𝕄) ⊢ creds c := by
  have all : (Pipeline.launchCred O₀ c : sProp 𝕄) ⊢ bigSep (Finset.univ.map ⟨csem, csem_injective⟩)
      fun sm : SemLoc sig => cred (tallyOn ((c : Thread nD τ), sm) (launchCredit (Pipeline.owing O₀) 0 ((c : Thread nD τ), sm))) :=
    bigSep_subset (Finset.subset_univ _)
  refine all.trans ?_
  rw [bigSep_map]
  refine (Entails.of_eq (each_sem c fun k => cred (tallyOn (kcell (c, k)) (launchCredit (Pipeline.owing O₀) 0 (kcell (c, k)))))).trans ?_
  rw [launch_credit c 0 3 (credits_bar c), launch_credit c _ _ (credits_cnt c (rot 1 c) (rot_ne c).1), launch_credit c _ _ (credits_cnt c (rot 2 c) (rot_ne c).2.1),
    launch_credit c _ _ (credits_cnt c (rot 3 c) (rot_ne c).2.2), launch_credit c _ _ (credits_hop c 0), launch_credit c _ _ (credits_hop c 1), launch_credit c _ _ (credits_hop c 2)]
  unfold creds
  iintro ⟨H0, -, -, -, H1, H2, H3, -, -, -, -, H4, H5, H6⟩
  isplitl [H0]; · iexact H0
  isplitl [H1 H2 H3]
  · isplitl [H1]; · iexact H1
    isplitl [H2] <;> iassumption
  isplitl [H4]; · iexact H4
  isplitl [H5] <;> iassumption

/-! ### The run theorem's conditions -/

/-- The argument which the kernel does not read. -/
def spare (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, unscopedRest0_eq]
  iintro ⟨Hsp, Hlev, Hcr, -, HG⟩
  ihave Hc := (creds_intro (F := F) c) $$ Hcr
  imodintro
  unfold start G' spare
  isplitr [Hsp]
  · isplitl [HG]; · iexact HG
    isplitl [Hc]; · iexact Hc
    iexact Hlev
  · iexact Hsp

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁ scrDone
  rw [sems0_eq]
  iintro ⟨⟨H0, H1, H2⟩, HU, HO⟩
  isplitl [HU]; · iexact HU
  isplitl [HO]; · iexact HO
  isplitl [H0]; · iexists _; iexact H0
  isplitl [H1]; · iexists _; iexact H1
  iexists _; iexact H2

theorem lv_debts (c : Dev nD) : ∀ x ∈ debts c, 0 < lvOf (role (csem x.2)) := by revert c; decide

theorem waits (c : Dev nD) : (levAts L lv : sProp 𝕄) ⊢ Pipeline.cellsWaits cfgs (dats m ρ) () 0 c :=
  Pipeline.cellsWaits_intro cfgs (dats m ρ) () 0 c fun w s t => by
    have h0 : lvOf (role (.dma ((cfg0.win w).sem s))) = 0 := by fin_cases w <;> fin_cases s <;> decide
    rcases t with ⟨_ | _, ht⟩
    · exact mayWait c _ (debts c) (by rw [h0]; exact lv_debts c)
    · exact mayWait c _ [] (fun x hx => absurd hx List.not_mem_nil)

/-! ## The run -/

/-- What window `w`'s array ends with. -/
def finalA (c : Dev nD) (w : Fin cfg0.W) : Buf (Elt F) ((cfg0.win w).arr.view.loc (c : Thread nD τ)) := (dats m ρ 0 c).arrAt w cfg0.N

set_option maxRecDepth 8000 in
/-- Every execution of @main on the four devices, from any memory with no counter raised, ends; each window's array
    then holds `finalA`, the spare argument what it held, and no counter is raised. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold spare
      iintro ⟨Hu, Hsp, HSI⟩
      icombine HSI Hsp gives %h
      imod (Pipeline.unscopedSems0_read (X := unscopedSems0 c) (c := c) fupd_intro s') $$ [Hu HSI] with ⟨%h', HSI⟩
      · isplitl [Hu] <;> iassumption
      imodintro
      isplitr
      · ipureintro; exact ⟨Buf.eq_of_forall_mem_univ h, h'⟩
      · iexact HSI)
    (hQ := fun _ h hs => ⟨fun c => ⟨(h c).1, (h c).2.2.1⟩, sem_eq_zero hs fun c => (h c).2.2.2⟩)

/-- The arguments end as they began, -/
theorem run_frame : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).1 0).trans ((dats m ρ 0 c).arrAt_in 0 rfl _), (h.1 c).2,
    ((h.1 c).1 1).trans ((dats m ρ 0 c).arrAt_in 1 rfl _), ((h.1 c).1 2).trans ((dats m ρ 0 c).arrAt_in 2 rfl _)⟩, h.2⟩) (run_main m ρ)

end Cert.KernelIdeal.Exchange
-- ==== Proof.Kernel.Same.lean ====
/-
# The two printed kernels are one program

The kernel over the reals was printed from the same text, no operation rewritten, so that the two programs are equal at
any float values and what holds of every execution of one holds of the other's.
-/
module

public import proofs.«01_k».proof.Proof.Gen.Kernel
public import proofs.«01_k».proof.Proof.KernelIdeal.Run

@[expose] public section

noncomputable section

namespace Cert.Kernel.Same

open Idealize.ShloMosaic Idealize.SL.Sem

attribute [local instance] Cert.Kernel.Gen.facts Cert.KernelIdeal.Gen.facts

variable {F : FTy → Type} [FloatOps F]

/-- The bodies are equal, -/
theorem body_eq : Cert.Kernel.cc0_body (F := F) = Cert.KernelIdeal.cc0_body (F := F) := rfl

/-- and so are the calls of them, -/
theorem calls_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- the pipelines around them -/
theorem defs_eq : Cert.Kernel.defs (F := F) = Cert.KernelIdeal.defs (F := F) :=
  congrArg (Pipeline.defs (Cert.KernelIdeal.pcfgs (F := F))) calls_eq

/-- and the programs' entries. -/
theorem main_eq : Cert.Kernel.main (F := F) = Cert.KernelIdeal.main (F := F) := rfl

/-- Every execution of the kernel as printed ends with its arguments as they began and every counter at zero. -/
theorem run_frame (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  rw [defs_eq, main_eq]
  exact Cert.KernelIdeal.Exchange.run_frame m ρ

end Cert.Kernel.Same

end
-- ==== Proof.KernelIdeal.Hop.lean ====
/-
# One slot's share of the result

The kernel adds to its result, slot by slot, the product of its tokens, masked by expert and laid side by side, with the
four experts' matrices of the slot. Here each share is named once (`hop`), and over the reals read at an element.
-/
module

public import proofs.«01_k».proof.Proof.KernelIdeal.Body
public import Idealize.ShloMosaic.Lib.Pointwise
public import Idealize.ShloMosaic.Lib.MatmulPlain

@[expose] public section

noncomputable section

namespace Cert.KernelIdeal.Exchange

open Cert.KernelIdeal Cert.KernelIdeal.Gen

open Idealize.ShloMosaic
open Idealize.ShloMosaic.TcCoe
open Idealize.SL.Sem

section
variable {F : FTy → Type} [FloatOps F]

/-- The tokens of expert `e` which are kept; the others are zero. -/
def masked (ex : IVec S512 32) (kp : IVec S512 1) (tk : FVec F S512x256 .bf16) (e : BitVec 32) : FVec F S512x256 .bf16 :=
  mulf tk (broadcastTo S512x256 (shapeCast S512x1 (truncf .bf16 (sitofp (F := F) .f32
    (extui 32 (andi (cmpi .eq ex (broadcast S512 e)) kp) natLt_1_32)) bitsLt_bf16_f32) shapeCasts_S512_S512x1)
    broadcasts_S512x1_S512x256)

/-- The result so far and the share of device `s`'s four experts, whose matrices are `w`. -/
def hop (ex : IVec S512 32) (kp : IVec S512 1) (tk : FVec F S512x256 .bf16) (s : BitVec 32) (w : Vec F S1x1024x512 .bf16)
    (acc : FVec F S512x512 .f32) : FVec F S512x512 .f32 :=
  addf acc (matmul dot_S512x1024_S1024x512_S512x512_1_0_0_1_n_n none
    (concatenate S512x1024 1 [⟨S512x256, masked ex kp tk (Scalar.addi (Scalar.muli s 4#32) 0#32)⟩,
      ⟨S512x256, masked ex kp tk (Scalar.addi (Scalar.muli s 4#32) 1#32)⟩,
      ⟨S512x256, masked ex kp tk (Scalar.addi (Scalar.muli s 4#32) 2#32)⟩,
      ⟨S512x256, masked ex kp tk (Scalar.addi (Scalar.muli s 4#32) 3#32)⟩]
      concatenates_S512x256_S512x256_S512x256_S512x256_S512x1024_d1)
    (shapeCast S1024x512 w shapeCasts_S1x1024x512_S1024x512) (constant S512x512 .f32 0x00000000#32))

variable (m : (ℓ : Loc nD τ sig) → Buf (Elt F) ℓ) (ρ : Dev nD → PrngReg)

theorem acc0_eq (c : Dev nD) : acc0 m ρ c = hop (experts m ρ c) (kept m ρ c) (tokens m ρ c) (srcWord 0#32 c) (slotVal m ρ 0 c) k0_pay11 := rfl
theorem acc1_eq (c : Dev nD) : acc1 m ρ c = hop (experts m ρ c) (kept m ρ c) (tokens m ρ c) (srcWord 1#32 c) (slotVal m ρ 1 c) (acc0 m ρ c) := rfl
theorem acc2_eq (c : Dev nD) : acc2 m ρ c = hop (experts m ρ c) (kept m ρ c) (tokens m ρ c) (srcWord 2#32 c) (slotVal m ρ 2 c) (acc1 m ρ c) := rfl
theorem outAt_eq (c : Dev nD) : outAt m ρ c = hop (experts m ρ c) (kept m ρ c) (tokens m ρ c) (srcWord 3#32 c) (slotVal m ρ 3 c) (acc2 m ρ c) := rfl

end

/-- A truth value as a number is one or zero. -/
theorem bit_real (b : BitVec 1) : (FloatOps.sitofp (F := Ideal) .f32 (b.setWidth 32) : EReal) = if b = 1#1 then 1 else 0 := by
  show (((b.setWidth 32).toInt : ℝ) : EReal) = _
  rcases (by revert b; decide : b = 0#1 ∨ b = 1#1) with rfl | rfl
  · rw [if_neg (by decide), show ((0#1 : BitVec 1).setWidth 32).toInt = 0 by decide]; simp
  · rw [if_pos rfl, show ((1#1 : BitVec 1).setWidth 32).toInt = 1 by decide]; simp

/-- Two words meet, and a second condition holds. -/
theorem meet_and (x e : BitVec 32) (b : BitVec 1) : IntOp.andi (IntOp.cmpi CmpIPredicate.eq x e) b = 1#1 ↔ x = e ∧ b = 1#1 := by
  show BitVec.ofBool (x == e) &&& b = 1#1 ↔ _
  rcases (by revert b; decide : b = 0#1 ∨ b = 1#1) with rfl | rfl <;> by_cases h : x = e
  · simp [h]
  · simp [h]
  · simp [h]
  · rw [beq_eq_false_iff_ne.mpr h]; simp [h]

/-- An element of the masked tokens. -/
theorem masked_apply (ex : IVec S512 32) (kp : IVec S512 1) (tk : FVec Ideal S512x256 .bf16) (e : BitVec 32) (i : Fin 512) (d : Fin 256) :
    masked ex kp tk e (ix2 i d) = if ex (ix1 i) = e ∧ kp (ix1 i) = 1#1 then tk (ix2 i d) else 0 := by
  pointwise [masked]
  rw [bit_real]
  simp only [meet_and, mul_ite, mul_one, mul_zero]

/-- A slot's matrices, at an element. -/
theorem slot_apply (W : Vec Ideal S4x256x512 .f32) (j : Fin 4) (d : Fin 256) (h : Fin 512) :
    shapeCast S1024x512 (k0_pay7 (F := Ideal) W) shapeCasts_S1x1024x512_S1024x512 (ix2 (⟨j.val * 256 + d.val, by omega⟩ : Fin 1024) h) = W (ix3 j d h) := by
  pointwise [k0_pay7]

/-- The four masked copies side by side, at an element. -/
theorem beside_apply (f : Fin 4 → FVec Ideal S512x256 .bf16) (i : Fin 512) (j : Fin 4) (d : Fin 256) :
    concatenate S512x1024 1 [⟨S512x256, f 0⟩, ⟨S512x256, f 1⟩, ⟨S512x256, f 2⟩, ⟨S512x256, f 3⟩]
      concatenates_S512x256_S512x256_S512x256_S512x256_S512x1024_d1 (ix2 i (⟨j.val * 256 + d.val, by omega⟩ : Fin 1024)) = f j (ix2 i d) := by
  fin_cases j <;> pointwise
  all_goals repeat first | rw [dif_pos (by omega)] | rw [dif_neg (by omega)]
  all_goals exact congrArg _ (congrArg (ix2 i) (Fin.ext (by show _ = d.val; dsimp only; omega)))

/-- A sum over the 1024 rows of a slot is a sum over its four experts' rows. -/
theorem sum_rows (f : Fin 1024 → EReal) : ∑ k, f k = ∑ j : Fin 4, ∑ d : Fin 256, f ⟨j.val * 256 + d.val, by omega⟩ := by
  rw [← (finProdFinEquiv (m := 4) (n := 256)).sum_comp, Fintype.sum_prod_type]
  refine Finset.sum_congr rfl fun j _ => Finset.sum_congr rfl fun d _ => congrArg f (Fin.ext ?_)
  show d.val + 256 * j.val = j.val * 256 + d.val
  omega

/-- A share, at an element: each of the device's four experts adds its product where the token is that expert's and kept. -/
theorem hop_apply (ex : IVec S512 32) (kp : IVec S512 1) (tk : FVec Ideal S512x256 .bf16) (s : BitVec 32) (W : Vec Ideal S4x256x512 .f32)
    (acc : FVec Ideal S512x512 .f32) (i : Fin 512) (h : Fin 512) :
    hop ex kp tk s (k0_pay7 (F := Ideal) W) acc (ix2 i h) = acc (ix2 i h) + ∑ j : Fin 4,
      if ex (ix1 i) = s * 4#32 + BitVec.ofNat 32 j.val ∧ kp (ix1 i) = 1#1 then ∑ d : Fin 256, tk (ix2 i d) * W (ix3 j d h) else 0 := by
  refine congrArg (acc (ix2 i h) + ·) ((Ideal.matmul_plain_apply none
    (concatenate S512x1024 1 [⟨S512x256, masked ex kp tk (Scalar.addi (Scalar.muli s 4#32) 0#32)⟩, ⟨S512x256, masked ex kp tk (Scalar.addi (Scalar.muli s 4#32) 1#32)⟩,
      ⟨S512x256, masked ex kp tk (Scalar.addi (Scalar.muli s 4#32) 2#32)⟩, ⟨S512x256, masked ex kp tk (Scalar.addi (Scalar.muli s 4#32) 3#32)⟩]
      concatenates_S512x256_S512x256_S512x256_S512x256_S512x1024_d1)
    (shapeCast S1024x512 (k0_pay7 (F := Ideal) W) shapeCasts_S1x1024x512_S1024x512) (constant S512x512 .f32 0x00000000#32) i h).trans ?_)
  rw [sum_rows, show (constant (F := Ideal) S512x512 .f32 0x00000000#32 (ValueIdx.ix2 i h) : EReal) = 0 by
    exact Ideal.ofBits_zero_f32, zero_add]
  refine Finset.sum_congr rfl fun j _ => ?_
  have e : ∀ d : Fin 256, _ * _ = if ex (ix1 i) = s * 4#32 + BitVec.ofNat 32 j.val ∧ kp (ix1 i) = 1#1 then tk (ix2 i d) * W (ix3 j d h) else 0 :=
    fun d => (congrArg₂ (· * ·)
      ((beside_apply (fun k => masked ex kp tk (s * 4#32 + BitVec.ofNat 32 k.val)) i j d).trans (masked_apply ex kp tk _ i d)) (slot_apply W j d h)).trans
        (by rw [ite_mul, zero_mul])
  refine (Finset.sum_congr rfl fun d _ => e d).trans ?_
  split_ifs with hc
  · rfl
  · exact Finset.sum_const_zero

end Cert.KernelIdeal.Exchange
-- ==== Proof.Value.Spec.lean ====
/-
# What the dispatch computes

Tokens are taken in order; each goes to the expert its route names while that expert has taken fewer than 102. A token's
row of the result is its product with its expert's matrix, or zero. A token is therefore kept exactly when fewer than 102
tokens before it have its route.
-/
module

public import Idealize.ShloMosaic.PureOps.Ideal
public import Mathlib.Algebra.BigOperators.Fin
public import Mathlib.Logic.Equiv.Fin.Basic

@[expose] public section

noncomputable section

namespace Cert.Dispatch

open scoped BigOperators

/-- How many of the tokens before token `n` have route `e`. -/
def before (r : Fin 2048 → BitVec 32) (n : ℕ) (e : BitVec 32) : ℕ := ∑ k : Fin 2048, if k.val < n ∧ r k = e then 1 else 0

/-- Element `(n, h)` of the result, from the tokens `x`, the routes `r` and the experts' matrices `W`. -/
def result (x : Fin 2048 → Fin 256 → EReal) (r : Fin 2048 → BitVec 32) (W : Fin 16 → Fin 256 → Fin 512 → EReal) (n : Fin 2048) (h : Fin 512) : EReal :=
  ∑ e : Fin 16, if r n = BitVec.ofNat 32 e.val ∧ before r n.val (BitVec.ofNat 32 e.val) < 102 then ∑ d : Fin 256, x n d * W e d h else 0

theorem before_zero (r : Fin 2048 → BitVec 32) (e : BitVec 32) : before r 0 e = 0 :=
  Finset.sum_eq_zero fun k _ => if_neg fun h => absurd h.1 (Nat.not_lt_zero _)

/-- One token more. -/
theorem before_succ (r : Fin 2048 → BitVec 32) (n : Fin 2048) (e : BitVec 32) :
    before r (n.val + 1) e = before r n.val e + if r n = e then 1 else 0 := by
  have h : ∀ k : Fin 2048, (if k.val < n.val + 1 ∧ r k = e then 1 else 0)
      = (if k.val < n.val ∧ r k = e then 1 else 0) + (if k = n then (if r n = e then 1 else 0) else 0) := by
    intro k
    by_cases hk : k = n
    · subst hk
      simp
    · have : k.val ≠ n.val := fun h => hk (Fin.ext h)
      simp only [if_neg hk, add_zero]
      exact if_congr (and_congr_left' (by omega)) rfl rfl
  unfold before
  rw [Finset.sum_congr rfl fun k _ => h k, Finset.sum_add_distrib, Finset.sum_ite_eq' Finset.univ n, if_pos (Finset.mem_univ n)]

/-- Token `i` of device `c`'s 512. -/
def tok (c : Fin 4) (i : Fin 512) : Fin 2048 := ⟨c.val * 512 + i.val, by omega⟩
/-- Expert `j` of device `s`'s four. -/
def exp (s : Fin 4) (j : Fin 4) : Fin 16 := ⟨s.val * 4 + j.val, by omega⟩

/-- The tokens before token `i` of device `c` are those of the devices before it and its own before `i`. -/
theorem before_tok (r : Fin 2048 → BitVec 32) (c : Fin 4) (i : Fin 512) (e : BitVec 32) :
    before r (tok c i).val e = (∑ j : Fin 4, if j.val < c.val then ∑ k : Fin 512, (if r (tok j k) = e then 1 else 0) else 0)
      + ∑ k : Fin 512, if k.val < i.val ∧ r (tok c k) = e then 1 else 0 := by
  have hsum : ∀ f : Fin 2048 → ℕ, ∑ k, f k = ∑ j : Fin 4, ∑ k : Fin 512, f (tok j k) := fun f => by
    rw [← (finProdFinEquiv (m := 4) (n := 512)).sum_comp, Fintype.sum_prod_type]
    refine Finset.sum_congr rfl fun j _ => Finset.sum_congr rfl fun d _ => congrArg f (Fin.ext ?_)
    show d.val + 512 * j.val = j.val * 512 + d.val
    omega
  have hown : (∑ k : Fin 512, if k.val < i.val ∧ r (tok c k) = e then 1 else 0)
      = ∑ j : Fin 4, if j = c then ∑ k : Fin 512, (if k.val < i.val ∧ r (tok c k) = e then 1 else 0) else 0 := by
    rw [Finset.sum_ite_eq' Finset.univ c, if_pos (Finset.mem_univ c)]
  rw [hown, ← Finset.sum_add_distrib]
  unfold before
  rw [hsum]
  refine Finset.sum_congr rfl fun j _ => ?_
  have hlt : ∀ k : Fin 512, (tok j k).val < (tok c i).val ↔ j.val < c.val ∨ (j = c ∧ k.val < i.val) := fun k => by
    show j.val * 512 + k.val < c.val * 512 + i.val ↔ _
    rw [Fin.ext_iff]; omega
  by_cases hj : j.val < c.val
  · have hne : j ≠ c := fun h => by subst h; exact absurd hj (lt_irrefl _)
    rw [if_pos hj, if_neg hne, add_zero]
    exact Finset.sum_congr rfl fun k _ => if_congr (by rw [hlt]; simp [hj]) rfl rfl
  · by_cases hc : j = c
    · subst hc
      rw [if_neg hj, if_pos rfl, zero_add]
      exact Finset.sum_congr rfl fun k _ => if_congr (by rw [hlt]; simp) rfl rfl
    · rw [if_neg hj, if_neg hc, add_zero]
      exact Finset.sum_eq_zero fun k _ => if_neg fun h => by
        rcases (hlt k).mp h.1 with h | h
        · exact hj h
        · exact hc h.1

/-- A sum over the sixteen experts, by device, in any order of the devices. -/
theorem sum_experts (f : Fin 16 → EReal) (s : Fin 4 → Fin 4) (hs : Function.Bijective s) :
    ∑ e, f e = ∑ h : Fin 4, ∑ j : Fin 4, f (exp (s h) j) := by
  refine Eq.trans ?_ ((Equiv.ofBijective s hs).sum_comp (fun d => ∑ j : Fin 4, f (exp d j))).symm
  rw [← (finProdFinEquiv (m := 4) (n := 4)).sum_comp, Fintype.sum_prod_type]
  refine Finset.sum_congr rfl fun j _ => Finset.sum_congr rfl fun d _ => congrArg f (Fin.ext ?_)
  show d.val + 4 * j.val = j.val * 4 + d.val
  omega

end Cert.Dispatch
-- ==== Proof.KernelIdeal.Rank.lean ====
/-
# How the kernel decides which tokens are kept

A token's rank is the number of tokens before it at its expert: those of the devices before its own, from the counts
gathered from them, and those before it on its own device. The token is kept when its rank is below 102.
-/
module

public import proofs.«01_k».proof.Proof.KernelIdeal.Hop
public import proofs.«01_k».proof.Proof.Value.Spec

@[expose] public section

noncomputable section

namespace Cert.KernelIdeal.Exchange

open Cert.KernelIdeal Cert.KernelIdeal.Gen

open Idealize.ShloMosaic
open Idealize.ShloMosaic.TcCoe
open Idealize.SL.Sem

/-- The device's number as the kernel computes it is its number. -/
theorem me_eq (c : Dev nD) : me c = BitVec.ofNat 32 c.val := by revert c; decide

/-- Comparing small numbers as words. -/
theorem slt_small {a b : ℕ} (ha : a < 2048) (hb : b < 2048) :
    (FloatOps.sitofp (F := Ideal) .f32 ((IntOp.cmpi CmpIPredicate.slt (BitVec.ofNat 32 a) (BitVec.ofNat 32 b)).setWidth 32) : EReal) = if a < b then 1 else 0 := by
  rw [bit_real]
  refine if_congr ?_ rfl rfl
  show BitVec.ofBool ((BitVec.ofNat 32 a).slt (BitVec.ofNat 32 b)) = 1#1 ↔ _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  by_cases h : a < b <;> simp [h]

/-- Two words that meet, as a number. -/
theorem eq_real (x e : BitVec 32) :
    (FloatOps.sitofp (F := Ideal) .f32 ((IntOp.cmpi CmpIPredicate.eq x e).setWidth 32) : EReal) = if x = e then 1 else 0 := by
  rw [bit_real]
  refine if_congr ?_ rfl rfl
  show BitVec.ofBool (x == e) = 1#1 ↔ _
  by_cases h : x = e
  · simp [h]
  · rw [beq_eq_false_iff_ne.mpr h]; simp [h]

variable (m : (ℓ : Loc nD τ sig) → Buf (Elt Ideal) ℓ) (ρ : Dev nD → PrngReg)

/-- Where a token meets an expert. -/
theorem onehot_apply (c : Dev nD) (k : Fin 512) (e : Fin 16) :
    onehot m ρ c (ix2 k e) = if experts m ρ c (ix1 k) = BitVec.ofNat 32 e.val then 1 else 0 := by
  refine Eq.trans ?_ (eq_real _ _)
  pointwise [onehot, experts, k0_pay5, k0_pay4, k0_pay3]

/-- How many of a device's tokens an expert has. -/
theorem mine_apply (c : Dev nD) (e : Fin 16) : mine m ρ c (ix2 (0 : Fin 1) e) = ∑ k : Fin 512, onehot m ρ c (ix2 k e) := by
  pointwise [mine, onehot, k0_pay6]

/-- The gathered counts, the devices' before this one. -/
theorem counts_apply (c : Dev nD) (j : Fin 4) (e : Fin 16) :
    HMul.hMul (α := EReal) (β := EReal) (γ := EReal) (cntAll m ρ c (ix3 j (0 : Fin 1) e)) (if j.val < c.val then 1 else 0) = if j.val < c.val then ∑ k : Fin 512, onehot m ρ j (ix2 k e) else 0 := by
  by_cases h : j.val < c.val
  · rw [if_pos h, if_pos h, mul_one]
    refine Eq.trans ?_ (mine_apply m ρ j e)
    exact if_neg (by show ¬ j.val = c.val; omega)
  · rw [if_neg h, if_neg h, mul_zero]

/-- The rank of a token of expert `e`, its device's routes being part of all the routes `r`, counts the tokens before it at `e`. -/
theorem rank_apply (r : Fin 2048 → BitVec 32) (hr : ∀ (c : Dev nD) (i : Fin 512), experts m ρ c (ix1 i) = r (Dispatch.tok c i))
    (c : Dev nD) (i : Fin 512) (e : Fin 16) (he : r (Dispatch.tok c i) = BitVec.ofNat 32 e.val) :
    rank m ρ c (ix1 i) = ((Dispatch.before r (Dispatch.tok c i).val (BitVec.ofNat 32 e.val) : ℕ) : EReal) := by
  have hone : ∀ (c : Dev nD) (k : Fin 512) (e : Fin 16), onehot m ρ c (ix2 k e) = if r (Dispatch.tok c k) = BitVec.ofNat 32 e.val then 1 else 0 :=
    fun c k e => (onehot_apply m ρ c k e).trans (by rw [hr])
  pointwise [rank, k0_pay8]
  rw [Finset.sum_eq_single e]
  · rw [hone, if_pos he, one_mul, Dispatch.before_tok, Nat.cast_add, Nat.cast_sum, Nat.cast_sum]
    refine congrArg₂ (· + ·) (Finset.sum_congr rfl fun j _ => ?_) (Finset.sum_congr rfl fun k _ => ?_)
    · rw [me_eq, slt_small (by omega) (by have := c.isLt; unfold nD at this; omega)]
      refine (counts_apply m ρ c j e).trans ?_
      rw [Nat.cast_ite, Nat.cast_sum, Nat.cast_zero]
      refine if_congr Iff.rfl (Finset.sum_congr rfl fun k _ => ?_) rfl
      rw [hone, Nat.cast_ite, Nat.cast_one, Nat.cast_zero]
    · rw [slt_small (by omega) (by omega), hone, Nat.cast_ite, Nat.cast_one, Nat.cast_zero, ite_and, ite_mul, one_mul, zero_mul]
  · intro e' _ hne
    rw [hone, if_neg, zero_mul]
    rw [he]
    intro h
    have := congrArg BitVec.toNat h
    rw [BitVec.toNat_ofNat, BitVec.toNat_ofNat, Nat.mod_eq_of_lt (by omega), Nat.mod_eq_of_lt (by omega)] at this
    exact hne (Fin.ext this.symm)
  · exact fun h => absurd (Finset.mem_univ e) h

/-- The capacity, as a real. -/
theorem capacity_eq : (capacity (F := Ideal) : EReal) = ((102 : ℕ) : EReal) := by
  show Ideal.ofBits .f32 0x42CC0000#32 = _
  rw [show (((102 : ℕ) : EReal)) = ((102 : ℝ) : EReal) by norm_cast]
  simp [Ideal.ofBits, Ideal.ieee, -EReal.coe_mul]
  norm_num

/-- A token of expert `e` is kept when fewer than 102 tokens before it are `e`'s. -/
theorem kept_iff (r : Fin 2048 → BitVec 32) (hr : ∀ (c : Dev nD) (i : Fin 512), experts m ρ c (ix1 i) = r (Dispatch.tok c i))
    (c : Dev nD) (i : Fin 512) (e : Fin 16) (he : r (Dispatch.tok c i) = BitVec.ofNat 32 e.val) :
    kept m ρ c (ix1 i) = 1#1 ↔ Dispatch.before r (Dispatch.tok c i).val (BitVec.ofNat 32 e.val) < 102 := by
  have h : kept m ρ c (ix1 i) = BitVec.ofBool (decide (rank m ρ c (ix1 i) < (capacity (F := Ideal) : EReal))) := by
    pointwise [kept, k0_pay9, capacity]
  have hbit : ∀ (p : Prop) [Decidable p], BitVec.ofBool (decide p) = 1#1 ↔ p := fun p _ => by by_cases hp : p <;> simp [hp]
  rw [h, hbit, rank_apply m ρ r hr c i e he, capacity_eq, Nat.cast_lt]

end Cert.KernelIdeal.Exchange
-- ==== Proof.KernelIdeal.Value.lean ====
/-
# What the kernel stores

Each device's stored block, at an element, is its token's row of the dispatch's result.
-/
module

public import proofs.«01_k».proof.Proof.KernelIdeal.Rank
public import proofs.«01_k».proof.Proof.KernelIdeal.Run

@[expose] public section

noncomputable section

namespace Cert.KernelIdeal.Exchange

open Cert.KernelIdeal Cert.KernelIdeal.Gen

open Idealize.ShloMosaic
open Idealize.ShloMosaic.TcCoe
open Idealize.SL.Sem

/-- The device which slot `h` comes from, as the kernel computes its number. -/
theorem srcWord_eq (h : Fin 4) (c : Dev nD) : srcWord (BitVec.ofNat 32 h.val) c = BitVec.ofNat 32 (src h c).val := by revert c h; decide

/-- The four slots come from the four devices. -/
theorem src_bijective (c : Dev nD) : Function.Bijective fun h : Fin 4 => (src h c : Fin 4) :=
  Finite.injective_iff_bijective.mp (by revert c; decide)

/-- Expert `j` of device `s`, as the kernel computes its number. -/
theorem expert_word (s j : Fin 4) : BitVec.ofNat 32 s.val * 4#32 + BitVec.ofNat 32 j.val = BitVec.ofNat 32 (Dispatch.exp s j).val := by
  revert s j; decide

variable (m : (ℓ : Loc nD τ sig) → Buf (Elt Ideal) ℓ) (ρ : Dev nD → PrngReg)

theorem experts_apply (c : Dev nD) (i : Fin 512) : experts m ρ c (ix1 i) = routestg m ρ c (ix2 i (0 : Fin 1)) := by
  pointwise [experts, k0_pay3]

theorem tokens_apply (c : Dev nD) (i : Fin 512) (d : Fin 256) : tokens m ρ c (ix2 i d) = xstg m ρ c (ix2 i d) := by
  pointwise [tokens, k0_pay10]

/-- Element `(i, h)` of what device `c` stores. -/
theorem outAt_apply (x : Fin 2048 → Fin 256 → EReal) (r : Fin 2048 → BitVec 32) (W : Fin 16 → Fin 256 → Fin 512 → EReal)
    (hx : ∀ (c : Dev nD) (i : Fin 512) (d : Fin 256), xstg m ρ c (ix2 i d) = x (Dispatch.tok c i) d)
    (hr : ∀ (c : Dev nD) (i : Fin 512), routestg m ρ c (ix2 i (0 : Fin 1)) = r (Dispatch.tok c i))
    (hW : ∀ (c : Dev nD) (j : Fin 4) (d : Fin 256) (h : Fin 512), wstg m ρ c (ix3 j d h) = W (Dispatch.exp c j) d h)
    (c : Dev nD) (i h : Fin 512) : outAt m ρ c (ix2 i h) = Dispatch.result x r W (Dispatch.tok c i) h := by
  have hr' : ∀ (c : Dev nD) (i : Fin 512), experts m ρ c (ix1 i) = r (Dispatch.tok c i) := fun c i => (experts_apply m ρ c i).trans (hr c i)
  have share : ∀ (a : Fin 4) (acc : FVec Ideal S512x512 .f32),
      hop (experts m ρ c) (kept m ρ c) (tokens m ρ c) (srcWord (BitVec.ofNat 32 a.val) c) (slotVal m ρ a c) acc (ix2 i h)
        = acc (ix2 i h) + ∑ j : Fin 4, if r (Dispatch.tok c i) = BitVec.ofNat 32 (Dispatch.exp (src a c) j).val
            ∧ Dispatch.before r (Dispatch.tok c i).val (BitVec.ofNat 32 (Dispatch.exp (src a c) j).val) < 102
          then ∑ d : Fin 256, x (Dispatch.tok c i) d * W (Dispatch.exp (src a c) j) d h else 0 := by
    intro a acc
    refine (hop_apply _ _ _ _ (wstg m ρ (src a c)) acc i h).trans (congrArg (acc (ix2 i h) + ·) (Finset.sum_congr rfl fun j _ => ?_))
    rw [srcWord_eq, expert_word, hr']
    refine if_congr (and_congr_right fun he => kept_iff m ρ r hr' c i _ he) (Finset.sum_congr rfl fun d _ => ?_) rfl
    rw [tokens_apply, hx, hW]
  have h0 : (k0_pay11 (F := Ideal) (ix2 i h) : EReal) = 0 := Ideal.ofBits_zero_f32
  rw [outAt_eq, acc2_eq, acc1_eq, acc0_eq]
  refine (share 3 _).trans ?_
  unfold Dispatch.result
  rw [Dispatch.sum_experts _ (fun a => src a c) (src_bijective c), Fin.sum_univ_four (fun a : Fin 4 => ∑ j : Fin 4, _)]
  refine congrArg (· + _) ((share 2 _).trans (congrArg (· + _) ((share 1 _).trans (congrArg (· + _) ((share 0 _).trans ?_)))))
  rw [h0, zero_add]

end Cert.KernelIdeal.Exchange
-- ==== Proof.KernelIdeal.Output.lean ====
/-
# The kernel's whole arrays

Each window's block is its whole array. So the body reads the arguments themselves, and the result array ends as the
block that the body stores.
-/
module

public import proofs.«01_k».proof.Proof.KernelIdeal.Run

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The body reads its device's tokens, -/
theorem xstg_eq (c : Dev nD) : xstg m ρ c = m ((c.tc : Thread nD τ).loc main_arg0) := by
  funext i
  refine congrArg (m ((c.tc : Thread nD τ).loc main_arg0)) (funext fun a => Fin.ext ?_)
  match a with
  | ⟨0, _⟩ => show 0 * 512 + 1 * (i 0).val = (i 0).val; omega
  | ⟨1, _⟩ => show 0 * 256 + 1 * (i 1).val = (i 1).val; omega
/-- their routes, -/
theorem routestg_eq (c : Dev nD) : routestg m ρ c = m ((c.tc : Thread nD τ).loc main_arg2) := by
  funext i
  refine congrArg (m ((c.tc : Thread nD τ).loc main_arg2)) (funext fun a => Fin.ext ?_)
  match a with
  | ⟨0, _⟩ => show 0 * 512 + 1 * (i 0).val = (i 0).val; omega
  | ⟨1, _⟩ => show 0 * 1 + 1 * (i 1).val = (i 1).val; omega
/-- and its experts' matrices. -/
theorem wstg_eq (c : Dev nD) : wstg m ρ c = m ((c.tc : Thread nD τ).loc main_arg3) := by
  funext i
  refine congrArg (m ((c.tc : Thread nD τ).loc main_arg3)) (funext fun a => Fin.ext ?_)
  match a with
  | ⟨0, _⟩ => show 0 * 4 + 1 * (i 0).val = (i 0).val; omega
  | ⟨1, _⟩ => show 0 * 256 + 1 * (i 1).val = (i 1).val; omega
  | ⟨2, _⟩ => show 0 * 512 + 1 * (i 2).val = (i 2).val; omega

/-- An element of the result array is that element of its block. -/
theorem out_emb (i : S512x512.Idx) : ((cfg0.win 3).blk (0 : Fin 1)).view.emb i = i :=
  funext fun a => Fin.ext (by
    match a with
    | ⟨0, _⟩ => show 0 * 512 + 1 * (i 0).val = (i 0).val; omega
    | ⟨1, _⟩ => show 0 * 512 + 1 * (i 1).val = (i 1).val; omega)

/-- The result array ends holding what the body stores. -/
theorem finalA_out (c : Dev nD) : finalA m ρ c 3 = outAt m ρ c := by
  refine (dats m ρ 0 c).arrAt_eq_of_cover 3 (outAt m ρ c) (fun t _ => ?_) (fun i => ⟨(0 : Fin 1), flush0_3 _, ?_⟩)
  · have ht : t = (0 : Fin 1) := fin_N0 t
    subst ht
    funext i
    show outAt m ρ c i = outAt m ρ c (((cfg0.win 3).blk (0 : Fin 1)).view.emb i)
    rw [out_emb]
  · exact Finset.mem_map.mpr ⟨i, Finset.mem_univ _, out_emb i⟩

/-- Every execution of @main ends with each device's result as the body stores it and its arguments unchanged. -/
theorem run_value : θ_run defs (onTc (τ := τ) (main (F := F))) (s₀ m ρ) (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 3).trans (finalA_out m ρ c), ((h.1 c).1 0).trans ((dats m ρ 0 c).arrAt_in 0 rfl _), (h.1 c).2,
    ((h.1 c).1 1).trans ((dats m ρ 0 c).arrAt_in 1 rfl _), ((h.1 c).1 2).trans ((dats m ρ 0 c).arrAt_in 2 rfl _)⟩) (run_main m ρ)

end Cert.KernelIdeal.Exchange
-- ==== Proof.Reference.Loop.lean ====
/-
# What the reference's loop leaves

The loop takes the tokens in order. After `n` of them, every expert's counter is the number of its routes so far, at most
102, and the rows of the kept table below `n` say which tokens were kept.
-/
module

public import proofs.«01_k».proof.Proof.Gen.ReferenceIdeal.Run
public import proofs.«01_k».proof.Proof.Value.Spec
public import Idealize.ShloMosaic.Lib.Pointwise

@[expose] public section

noncomputable section

namespace Cert.ReferenceIdeal.Loop

open Cert.ReferenceIdeal Cert.ReferenceIdeal.Gen Cert.ReferenceIdeal.Value

open Idealize.ShloMosaic
open Idealize.ShloMosaic.TcCoe
open Idealize.ShloMosaic.StableHlo Idealize.ShloMosaic.Pipeline

/-- The contents after `n` tokens `r`: the routes and the experts' numbers, the token counter, the experts' counters and
    the kept table. -/
structure After (r : Fin 2048 → BitVec 32) (n : ℕ) (V : Valuation τ sig (Elt Ideal)) : Prop where
  route : ∀ k : Fin 2048, (V (Proc.devRef .tc main_v3_0) : IVec S2048x1 32) (ix2 k (0 : Fin 1)) = r k
  number : ∀ e : Fin 16, (V (Proc.devRef .tc main_v3_1) : IVec S16 32) (ix1 e) = BitVec.ofNat 32 e.val
  token : ∀ i, (V (Proc.devRef .tc main_v3_3) : IVec S_ 32) i = BitVec.ofNat 32 n
  count : ∀ e : Fin 16, (V (Proc.devRef .tc main_v3_4) : IVec S16 32) (ix1 e) = BitVec.ofNat 32 (min 102 (Dispatch.before r n (BitVec.ofNat 32 e.val)))
  keep : ∀ (k : Fin 2048) (e : Fin 16), (V (Proc.devRef .tc main_v3_5) : IVec S2048x16 32) (ix2 k e)
    = if k.val < n ∧ r k = BitVec.ofNat 32 e.val ∧ Dispatch.before r k.val (BitVec.ofNat 32 e.val) < 102 then 1#32 else 0#32

theorem toInt_small (n : ℕ) (hn : n < 2048) : (BitVec.ofNat 32 n).toInt = n := by
  rw [BitVec.toInt_eq_toNat_cond, BitVec.toNat_ofNat]
  omega

/-- A token's number is not negative as a signed word. -/
theorem not_slt_zero (n : ℕ) (hn : n < 2048) : (BitVec.ofNat 32 n).slt 0#32 = false := by
  rw [BitVec.slt_eq_decide, toInt_small n hn]
  simp

/-- Where the loop reads its token's route and writes its token's row. -/
def start (V : Valuation τ sig (Elt Ideal)) (k : Fin 2) : Int :=
  ((![select (cmpi .slt (V (Proc.devRef .tc main_v3_3)) (constantI S_ 32 0#32)) (addi (id (V (Proc.devRef .tc main_v3_3))) (constantI S_ 32 2048#32)) (V (Proc.devRef .tc main_v3_3)), constantI S_ 32 0#32]
    : Fin 2 → (⟨S_, .i32⟩ : BufTy).Contents (Elt Ideal)) k (Shape.Idx.first h_S_)).toInt

theorem start_row (r : Fin 2048 → BitVec 32) (n : Fin 2048) (V : Valuation τ sig (Elt Ideal)) (h : After r n.val V) : start V 0 = (n.val : ℕ) := by
  show (Scalar.select (IntOp.cmpi .slt ((V (Proc.devRef .tc main_v3_3) : IVec S_ 32) (Shape.Idx.first h_S_)) 0#32) _
    ((V (Proc.devRef .tc main_v3_3) : IVec S_ 32) (Shape.Idx.first h_S_))).toInt = _
  rw [h.token, show IntOp.cmpi .slt (BitVec.ofNat 32 n.val) 0#32 = BitVec.ofBool ((BitVec.ofNat 32 n.val).slt 0#32) from rfl, not_slt_zero n.val n.isLt]
  exact toInt_small n.val n.isLt

theorem start_col (V : Valuation τ sig (Elt Ideal)) : start V 1 = (0 : ℕ) := rfl

/-- The bit "token `n` goes to expert `e`". -/
theorem taken (r : Fin 2048 → BitVec 32) (n : Fin 2048) (V : Valuation τ sig (Elt Ideal)) (h : After r n.val V) (e : Fin 16) :
    (res_main_while0b_v22 V : IVec S16 32) (ix1 e)
      = if r n = BitVec.ofNat 32 e.val ∧ Dispatch.before r n.val (BitVec.ofNat 32 e.val) < 102 then 1#32 else 0#32 := by
  pointwise [res_main_while0b_v22]
  have h0 := Host.clampedStart_of_le (s := S2048x1) (t := S1x1) rfl (start V) 0 n.val (start_row r n V h) (by show n.val + 1 ≤ 2048; omega)
  have h1 := Host.clampedStart_of_le (s := S2048x1) (t := S1x1) rfl (start V) 1 0 (start_col V) (by decide)
  have hi : (ix2 ⟨Host.clampedStart S2048x1 S1x1 rfl (start V) 0, by rw [h0]; exact n.isLt⟩ ⟨Host.clampedStart S2048x1 S1x1 rfl (start V) 1, by rw [h1]; decide⟩
      : S2048x1.Idx) = ix2 n (0 : Fin 1) := congrArg₂ ix2 (Fin.ext h0) (Fin.ext h1)
  refine (congrArg (fun w => BitVec.setWidth 32 (IntOp.andi (IntOp.cmpi .eq _ w) _)) ((congrArg (V (Proc.devRef .tc main_v3_0) : IVec S2048x1 32) hi).trans (h.route n))).trans ?_
  refine (congrArg₂ (fun a b => BitVec.setWidth 32 (IntOp.andi (IntOp.cmpi .eq a (r n)) (IntOp.cmpi .slt b 102#32))) (h.number e) (h.count e)).trans ?_
  generalize BitVec.ofNat 32 e.val = w
  generalize hb : Dispatch.before r n.val w = b
  have hlt : (BitVec.ofNat 32 (min 102 b)).slt 102#32 = decide (b < 102) := by
    rw [BitVec.slt_eq_decide, toInt_small _ (by omega)]
    have : (102#32).toInt = 102 := rfl
    rw [this]
    exact decide_eq_decide.mpr (by omega)
  show BitVec.setWidth 32 (BitVec.ofBool (w == r n) &&& BitVec.ofBool ((BitVec.ofNat 32 (min 102 b)).slt 102#32)) = _
  rw [hlt]
  by_cases hr : r n = w
  · by_cases hc : b < 102
    · rw [if_pos ⟨hr, hc⟩, decide_eq_true hc, beq_iff_eq.mpr hr.symm]; rfl
    · rw [if_neg fun h => hc h.2, decide_eq_false hc, beq_iff_eq.mpr hr.symm]; rfl
  · rw [if_neg fun h => hr h.1, beq_eq_false_iff_ne.mpr (Ne.symm hr)]
    cases decide (b < 102) <;> rfl

/-- Before the first token. -/
theorem entry (m : (ℓ : Loc nD τ sig) → Buf (Elt Ideal) ℓ) (c : Dev nD) (r : Fin 2048 → BitVec 32)
    (hr : ∀ k : Fin 2048, (m (c.tc.loc main_arg2) : IVec S2048x1 32) (ix2 k (0 : Fin 1)) = r k) : After r 0 (entryContents preI m c) where
  route k := by
    have : entryContents preI m c (Proc.devRef .tc main_v3_0) = m (c.tc.loc main_arg2) := by
      simp only [entryContents, afterL_cons, afterL_nil]
      after_reads_simp
      rfl
    rw [this]; exact hr k
  number e := by
    have : entryContents preI m c (Proc.devRef .tc main_v3_1) = iotaInDim S16 32 0 := by
      simp only [entryContents, afterL_cons, afterL_nil]
      after_reads_simp
      rfl
    rw [this]; rfl
  token i := by
    have : entryContents preI m c (Proc.devRef .tc main_v3_3) = constantI S_ 32 0#32 := by
      simp only [entryContents, afterL_cons, afterL_nil]
      after_reads_simp
      rfl
    rw [this]; rfl
  count e := by
    have : entryContents preI m c (Proc.devRef .tc main_v3_4) = fun _ => (0#32 : BitVec 32) := by
      simp only [entryContents, afterL_cons, afterL_nil]
      after_reads_simp
      rfl
    rw [this, Dispatch.before_zero]; rfl
  keep k e := by
    have : entryContents preI m c (Proc.devRef .tc main_v3_5) = fun _ => (0#32 : BitVec 32) := by
      simp only [entryContents, afterL_cons, afterL_nil]
      after_reads_simp
      rfl
    rw [this, if_neg fun h => absurd h.1 (Nat.not_lt_zero _)]

/-- A table with row `n` replaced. -/
theorem row_update (T : IVec S2048x16 32) (u : Fin 16 → BitVec 32) (U : IVec S1x16 32) (hU : ∀ j : Fin 16, U (ix2 (0 : Fin 1) j) = u j) (st : Fin 2 → Int)
    (n : Fin 2048) (hs0 : st 0 = (n.val : ℕ)) (hs1 : st 1 = (0 : ℕ)) (k : Fin 2048) (e : Fin 16) :
    Host.dynamicUpdateSlice T U st updateFits_S2048x16_S1x16 (ix2 k e) = if k = n then u e else T (ix2 k e) := by
  have h0 := Host.clampedStart_of_le (s := S2048x16) (t := S1x16) rfl st 0 n.val hs0 (by show n.val + 1 ≤ 2048; omega)
  have h1 := Host.clampedStart_of_le (s := S2048x16) (t := S1x16) rfl st 1 0 hs1 (by decide)
  rw [Host.dynamicUpdateSlice_apply]
  by_cases hk : k = n
  · subst hk
    rw [if_pos rfl, ← hU e]
    refine (dif_pos (Fin.forall_fin_two.mpr ⟨⟨le_of_eq h0, ?b⟩, ?c, ?d⟩)).trans (congrArg U ?a)
    case b =>
      show k.val < Host.clampedStart S2048x16 S1x16 rfl st 0 + 1
      omega
    case c =>
      show Host.clampedStart S2048x16 S1x16 rfl st 1 ≤ e.val
      omega
    case d =>
      show e.val < Host.clampedStart S2048x16 S1x16 rfl st 1 + 16
      omega
    case a =>
      refine Eq.trans ?_ (congrArg₂ ix2 (Fin.ext (Nat.sub_eq_zero_of_le (le_of_eq h0.symm)) : (⟨k.val - Host.clampedStart S2048x16 S1x16 rfl st 0, by omega⟩ : Fin 1) = 0)
        (Fin.ext (by show e.val - Host.clampedStart S2048x16 S1x16 rfl st 1 = e.val; omega) : (⟨e.val - Host.clampedStart S2048x16 S1x16 rfl st 1, by omega⟩ : Fin 16) = e))
      funext a
      fin_cases a <;> rfl
  · rw [if_neg hk]
    refine dif_neg fun hin => hk (Fin.ext ?_)
    have h2 : Host.clampedStart S2048x16 S1x16 rfl st 0 ≤ k.val := (hin 0).1
    have h3 : k.val < Host.clampedStart S2048x16 S1x16 rfl st 0 + 1 := (hin 0).2
    omega

/-- One token. -/
theorem token_step (r : Fin 2048 → BitVec 32) (n : Fin 2048) (V : Valuation τ sig (Elt Ideal)) (h : After r n.val V) : After r (n.val + 1) (STEP V) where
  route k := by rw [STEP_main_v3_0]; exact h.route k
  number e := by rw [STEP_main_v3_1]; exact h.number e
  token i := by
    rw [STEP_main_v3_3]
    exact (congrArg (fun a : BitVec 32 => a + 1#32) (h.token i)).trans (BitVec.ofNat_add n.val 1).symm
  count e := by
    rw [STEP_main_v3_4]
    refine (congrArg₂ (fun a b : BitVec 32 => a + b) (h.count e) (taken r n V h e)).trans ?_
    rw [Dispatch.before_succ]
    generalize BitVec.ofNat 32 e.val = w
    by_cases hr : r n = w
    · by_cases hc : Dispatch.before r n.val w < 102
      · rw [if_pos ⟨hr, hc⟩, if_pos hr, ← BitVec.ofNat_add]
        exact congrArg _ (by omega)
      · rw [if_neg fun h => hc h.2, if_pos hr, BitVec.add_zero]
        exact congrArg _ (by omega)
    · rw [if_neg fun h => hr h.1, if_neg hr, BitVec.add_zero, Nat.add_zero]
  keep k e := by
    rw [STEP_main_v3_5]
    refine (row_update (V (Proc.devRef .tc main_v3_5)) (fun j : Fin 16 => (res_main_while0b_v22 V : IVec S16 32) (ix1 j)) _ (fun j => by pointwise) (start V) n
      (start_row r n V h) (start_col V) k e).trans ?_
    by_cases hk : k = n
    · subst hk
      rw [if_pos rfl, taken r k V h e]
      exact if_congr (by simp) rfl rfl
    · have hne : k.val ≠ n.val := fun h => hk (Fin.ext h)
      rw [if_neg hk, h.keep]
      exact if_congr (and_congr_left' (by omega)) rfl rfl

/-- After `n` tokens. -/
theorem tokens (m : (ℓ : Loc nD τ sig) → Buf (Elt Ideal) ℓ) (c : Dev nD) (r : Fin 2048 → BitVec 32)
    (hr : ∀ k : Fin 2048, (m (c.tc.loc main_arg2) : IVec S2048x1 32) (ix2 k (0 : Fin 1)) = r k) :
    ∀ n, n ≤ 2048 → After r n (STEP^[n] (entryContents preI m c))
  | 0, _ => entry m c r hr
  | n + 1, h => by
    rw [Function.iterate_succ_apply']
    exact token_step r ⟨n, h⟩ _ (tokens m c r hr n (Nat.le_of_lt h))

/-- The reference's result, at an element. -/
theorem out_apply (m : (ℓ : Loc nD τ sig) → Buf (Elt Ideal) ℓ) (c : Dev nD) (x : Fin 2048 → Fin 256 → EReal) (r : Fin 2048 → BitVec 32)
    (W : Fin 16 → Fin 256 → Fin 512 → EReal)
    (hx : ∀ n d, (m (c.tc.loc main_arg0) : Vec Ideal S2048x256 .f32) (ix2 n d) = x n d)
    (hr : ∀ k : Fin 2048, (m (c.tc.loc main_arg2) : IVec S2048x1 32) (ix2 k (0 : Fin 1)) = r k)
    (hW : ∀ e d h, (m (c.tc.loc main_arg3) : Vec Ideal S16x256x512 .f32) (ix3 e d h) = W e d h) (n : Fin 2048) (h : Fin 512) :
    (out_main_v9 (STEP^[2048] (entryContents preI m c)) : Vec Ideal S2048x512 .f32) (ix2 n h) = Dispatch.result x r W n h := by
  have hk := (tokens m c r hr 2048 le_rfl).keep
  have h0 := iter_main_arg0 m c 2048
  have h3 := iter_main_arg3 m c 2048
  generalize STEP^[2048] (entryContents preI m c) = V at hk h0 h3 ⊢
  pointwise [out_main_v9]
  refine Finset.sum_congr (M := EReal) rfl fun e _ => ?_
  refine (congrArg₂ (fun b y => Scalar.select (IntOp.cmpi .eq b 1#32) y _) (hk n e)
    (Finset.sum_congr rfl fun d _ => congrArg₂ (HMul.hMul (α := EReal) (β := EReal) (γ := EReal)) ((congrFun h0 (ix2 n d)).trans (hx n d)) ((congrFun h3 (ix3 e d h)).trans (hW e d h)))).trans ?_
  by_cases ht : r n = BitVec.ofNat 32 e.val ∧ Dispatch.before r n.val (BitVec.ofNat 32 e.val) < 102
  · rw [if_pos ⟨n.isLt, ht⟩, if_pos ht]; rfl
  · rw [if_neg fun h => ht h.2, if_neg ht]
    exact Ideal.ofBits_zero_f32

end Cert.ReferenceIdeal.Loop
-- ==== Proof.Value.Algebraic.lean ====
/-
# The kernel computes the reference

Both results are the dispatch's: the reference's whole, and each device's its own 512 rows of it.
-/
module

public import proofs.«01_k».proof.Defs
public import proofs.«01_k».proof.Proof.KernelIdeal.Value
public import proofs.«01_k».proof.Proof.KernelIdeal.Output
public import proofs.«01_k».proof.Proof.Reference.Loop
public import Idealize.ShloMosaic.Lib.Layout

@[expose] public section

noncomputable section

namespace Cert.Dispatch

open Idealize.ShloMosaic Idealize.SL.Sem

/-- Row `i` of device `c`'s block of a token array is the row of its token `i`. -/
theorem block_tok {α : Type} (p : ℕ) (v : (⟨2, ![2048, p]⟩ : Shape).Idx → α) (h : Layout.Tiles ⟨2, ![512, p]⟩ ⟨2, ![2048, p]⟩ 0 4) (c : Fin 4) (i : Fin 512) (d : Fin p) :
    Layout.block ⟨2, ![512, p]⟩ ⟨2, ![2048, p]⟩ 0 4 c v h (ix2 i d) = v (ix2 (tok c i) d) := by
  rw [Layout.block_apply]
  refine congrArg v (funext fun a => Fin.ext ?_)
  match a with
  | ⟨0, _⟩ => rfl
  | ⟨1, _⟩ => rfl

/-- Matrix `j` of device `c`'s block of the experts' matrices is that of its expert `j`. -/
theorem block_exp {α : Type} (v : (⟨3, ![16, 256, 512]⟩ : Shape).Idx → α) (h : Layout.Tiles ⟨3, ![4, 256, 512]⟩ ⟨3, ![16, 256, 512]⟩ 0 4)
    (c : Fin 4) (j : Fin 4) (d : Fin 256) (k : Fin 512) :
    Layout.block ⟨3, ![4, 256, 512]⟩ ⟨3, ![16, 256, 512]⟩ 0 4 c v h (ix3 j d k) = v (ix3 (exp c j) d k) := by
  rw [Layout.block_apply]
  refine congrArg v (funext fun a => Fin.ext ?_)
  match a with
  | ⟨0, _⟩ => rfl
  | ⟨1, _⟩ => rfl
  | ⟨2, _⟩ => rfl

/-- A memory of the reference. -/
abbrev RefMem : Type := (ℓ : Loc Cert.ReferenceIdeal.nD Cert.ReferenceIdeal.τ Cert.ReferenceIdeal.sig) → Buf (Elt Ideal) ℓ
/-- The reference's result, as its run ends. -/
def refOut (m : RefMem) : Vec Ideal Cert.ReferenceIdeal.S2048x512 .f32 :=
  Cert.ReferenceIdeal.Value.out_main_v9 (Cert.ReferenceIdeal.Value.STEP^[2048] (StableHlo.entryContents Cert.ReferenceIdeal.Value.preI m 0))
/-- Its tokens, one a row. -/
def tokens (m : RefMem) : Vec Ideal Cert.ReferenceIdeal.S2048x256 .f32 :=
  m (((0 : Dev Cert.ReferenceIdeal.nD).tc : Thread Cert.ReferenceIdeal.nD Cert.ReferenceIdeal.τ).loc Cert.ReferenceIdeal.main_arg0)
/-- Its tokens' routes. -/
def routes (m : RefMem) : IVec Cert.ReferenceIdeal.S2048x1 32 :=
  m (((0 : Dev Cert.ReferenceIdeal.nD).tc : Thread Cert.ReferenceIdeal.nD Cert.ReferenceIdeal.τ).loc Cert.ReferenceIdeal.main_arg2)
/-- Its experts' matrices. -/
def matrices (m : RefMem) : Vec Ideal Cert.ReferenceIdeal.S16x256x512 .f32 :=
  m (((0 : Dev Cert.ReferenceIdeal.nD).tc : Thread Cert.ReferenceIdeal.nD Cert.ReferenceIdeal.τ).loc Cert.ReferenceIdeal.main_arg3)

/-- The reference's result is the dispatch of its arrays. -/
theorem refOut_apply (m : RefMem) (n : Fin 2048) (h : Fin 512) :
    refOut m (ix2 n h) = result (fun n d => tokens m (ix2 n d)) (fun n => routes m (ix2 n (0 : Fin 1))) (fun e d k => matrices m (ix3 e d k)) n h :=
  Cert.ReferenceIdeal.Loop.out_apply m 0 _ _ _ (fun _ _ => rfl) (fun _ => rfl) (fun _ _ _ => rfl) n h

/-- From memories where each device holds its rows of the tokens and the routes and its four experts' matrices, each
    device's result is its rows of the reference's. -/
theorem algebraic : Cert.algebraic_KernelIdeal_ReferenceIdeal (hKernelIdeal := Cert.KernelIdeal.Gen.facts) (hReferenceIdeal := Cert.ReferenceIdeal.Gen.facts) := by
  intro m g m' g' _ harg
  refine ⟨refOut m', ?_, ?_⟩
  · refine (θ_run Cert.KernelIdeal.defs _ _).mono (fun r h c => ⟨(h c).1.trans ?_, (h c).2⟩) (Cert.KernelIdeal.Exchange.run_value m g)
    have hx : ∀ c (i : Fin 512) (d : Fin 256), Cert.KernelIdeal.Exchange.xstg m g c (ix2 i d) = tokens m' (ix2 (tok c i) d) := fun c i d =>
      (congrFun ((Cert.KernelIdeal.Exchange.xstg_eq m g c).trans (harg c).1) (ix2 i d)).trans (block_tok 256 (tokens m') (by decide) c i d)
    have hr : ∀ c (i : Fin 512), Cert.KernelIdeal.Exchange.routestg m g c (ix2 i (0 : Fin 1)) = routes m' (ix2 (tok c i) (0 : Fin 1)) := fun c i =>
      (congrFun ((Cert.KernelIdeal.Exchange.routestg_eq m g c).trans (harg c).2.2.1) (ix2 i (0 : Fin 1))).trans (block_tok 1 (routes m') (by decide) c i 0)
    have hW : ∀ c (j : Fin 4) (d : Fin 256) (k : Fin 512), Cert.KernelIdeal.Exchange.wstg m g c (ix3 j d k) = matrices m' (ix3 (exp c j) d k) := fun c j d k =>
      (congrFun ((Cert.KernelIdeal.Exchange.wstg_eq m g c).trans (harg c).2.2.2) (ix3 j d k)).trans (block_exp (matrices m') (by decide) c j d k)
    funext i
    obtain ⟨a, b, rfl⟩ : ∃ (a b : Fin 512), i = ix2 a b := ⟨i 0, i 1, by funext k; fin_cases k <;> rfl⟩
    exact (Cert.KernelIdeal.Exchange.outAt_apply m g (fun n d => tokens m' (ix2 n d)) (fun n => routes m' (ix2 n (0 : Fin 1)))
      (fun e d k => matrices m' (ix3 e d k)) hx hr hW c a b).trans ((refOut_apply m' (tok c a) b).symm.trans (block_tok 512 (refOut m') (by decide) c a b).symm)
  · exact (θ_run Cert.ReferenceIdeal.defs _ _).mono (fun r h => h 0) (Cert.ReferenceIdeal.Value.run m' g')

end Cert.Dispatch

end
-- ==== Proof.lean ====
/- The certificate's claims, proved: the frames from the kernel's run (Proof/KernelIdeal/Run.lean, and Proof/Kernel/Same.lean for the kernel as printed)
   and the reference's (Proof/Gen/ReferenceIdeal/Run.lean), the comparison of the two in Proof/Value/Algebraic.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Same
public import proofs.«01_k».proof.Proof.KernelIdeal.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The kernel as printed ends with its arguments unchanged and every counter at zero. -/
theorem frame_kernel : Cert.quiescent_Kernel := fun m g _ => Cert.Kernel.Same.run_frame m g

/-- So does the kernel over the reals. -/
theorem frame_ideal : Cert.quiescent_KernelIdeal := fun m g _ => Cert.KernelIdeal.Exchange.run_frame m g

/-- So does the reference, which has no counter. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  frame_kernel, frame_ideal, frame_reference, trivial, Cert.Dispatch.algebraic⟩

end Cert.Proof

end
